-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_balanced [hPre_balanced : Cert.Pre_balanced.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SortedIdeal (m : (ℓ : Loc Cert.SortedIdeal.nD Cert.SortedIdeal.τ Cert.SortedIdeal.sig) → Buf (Elt Ideal) ℓ) : Prop :=
  True

def Pre_SortedIdeal_balanced [hPre_balanced : Cert.Pre_balanced.Facts] (m : (ℓ : Loc Cert.SortedIdeal.nD Cert.SortedIdeal.τ Cert.SortedIdeal.sig) → Buf (Elt Ideal) ℓ) : Prop :=
  ∀ c : Dev Cert.SortedIdeal.nD,
    (Cert.Pre_balanced.fn (F := Ideal) (m ((c.tc : Thread Cert.SortedIdeal.nD Cert.SortedIdeal.τ).loc Cert.SortedIdeal.main_arg0)) (m ((c.tc : Thread Cert.SortedIdeal.nD Cert.SortedIdeal.τ).loc Cert.SortedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced [hReferenceIdeal : Cert.ReferenceIdeal.Facts] [hPre_balanced : Cert.Pre_balanced.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SortedIdeal [hSortedIdeal : Cert.SortedIdeal.Facts] : Prop :=
  ∀ (m : (ℓ : Loc Cert.SortedIdeal.nD Cert.SortedIdeal.τ Cert.SortedIdeal.sig) → Buf (Elt Ideal) ℓ) (g : Dev Cert.SortedIdeal.nD → PrngReg), Pre_SortedIdeal m →
    θ_run (Cert.SortedIdeal.defs (F := Ideal)) (onTc (τ := Cert.SortedIdeal.τ) (Cert.SortedIdeal.main (F := Ideal))) ⟨m, fun _ => 0, g⟩ (fun r => (∀ c : Dev Cert.SortedIdeal.nD,
      r.2.mem ((c.tc : Thread Cert.SortedIdeal.nD Cert.SortedIdeal.τ).loc Cert.SortedIdeal.main_arg0) = m ((c.tc : Thread Cert.SortedIdeal.nD Cert.SortedIdeal.τ).loc Cert.SortedIdeal.main_arg0)
      ∧ r.2.mem ((c.tc : Thread Cert.SortedIdeal.nD Cert.SortedIdeal.τ).loc Cert.SortedIdeal.main_arg1) = m ((c.tc : Thread Cert.SortedIdeal.nD Cert.SortedIdeal.τ).loc Cert.SortedIdeal.main_arg1))
      ∧ r.2.sem = fun _ => 0)

def quiescent_SortedIdeal_pre_balanced [hSortedIdeal : Cert.SortedIdeal.Facts] [hPre_balanced : Cert.Pre_balanced.Facts] : Prop :=
  ∀ (m : (ℓ : Loc Cert.SortedIdeal.nD Cert.SortedIdeal.τ Cert.SortedIdeal.sig) → Buf (Elt Ideal) ℓ) (g : Dev Cert.SortedIdeal.nD → PrngReg), Pre_SortedIdeal_balanced m →
    θ_run (Cert.SortedIdeal.defs (F := Ideal)) (onTc (τ := Cert.SortedIdeal.τ) (Cert.SortedIdeal.main (F := Ideal))) ⟨m, fun _ => 0, g⟩ (fun r => (∀ c : Dev Cert.SortedIdeal.nD,
      r.2.mem ((c.tc : Thread Cert.SortedIdeal.nD Cert.SortedIdeal.τ).loc Cert.SortedIdeal.main_arg0) = m ((c.tc : Thread Cert.SortedIdeal.nD Cert.SortedIdeal.τ).loc Cert.SortedIdeal.main_arg0)
      ∧ r.2.mem ((c.tc : Thread Cert.SortedIdeal.nD Cert.SortedIdeal.τ).loc Cert.SortedIdeal.main_arg1) = m ((c.tc : Thread Cert.SortedIdeal.nD Cert.SortedIdeal.τ).loc Cert.SortedIdeal.main_arg1))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![8192, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_ReferenceIdeal_SortedIdeal_pre_balanced [hReferenceIdeal : Cert.ReferenceIdeal.Facts] [hSortedIdeal : Cert.SortedIdeal.Facts] [hPre_balanced : Cert.Pre_balanced.Facts] : Prop :=
  ∀ (m : (ℓ : Loc Cert.ReferenceIdeal.nD Cert.ReferenceIdeal.τ Cert.ReferenceIdeal.sig) → Buf (Elt Ideal) ℓ) (g : Dev Cert.ReferenceIdeal.nD → PrngReg)
    (m' : (ℓ : Loc Cert.SortedIdeal.nD Cert.SortedIdeal.τ Cert.SortedIdeal.sig) → Buf (Elt Ideal) ℓ) (g' : Dev Cert.SortedIdeal.nD → PrngReg), Pre_ReferenceIdeal_balanced m →
    (∀ c : Dev Cert.ReferenceIdeal.nD,
      m' ((c.tc : Thread Cert.SortedIdeal.nD Cert.SortedIdeal.τ).loc Cert.SortedIdeal.main_arg0) = m ((c.tc : Thread Cert.ReferenceIdeal.nD Cert.ReferenceIdeal.τ).loc Cert.ReferenceIdeal.main_arg0)
      ∧ m' ((c.tc : Thread Cert.SortedIdeal.nD Cert.SortedIdeal.τ).loc Cert.SortedIdeal.main_arg1) = m ((c.tc : Thread Cert.ReferenceIdeal.nD Cert.ReferenceIdeal.τ).loc Cert.ReferenceIdeal.main_arg1)) →
    ∃ (v0 : (c : Dev Cert.ReferenceIdeal.nD) → Buf (Elt Ideal) ((c.tc : Thread Cert.ReferenceIdeal.nD Cert.ReferenceIdeal.τ).loc Cert.ReferenceIdeal.main_v46)),
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ θ_run (Cert.SortedIdeal.defs (F := Ideal)) (onTc (τ := Cert.SortedIdeal.τ) (Cert.SortedIdeal.main (F := Ideal))) ⟨m', fun _ => 0, g'⟩ (fun r => ∀ c : Dev Cert.SortedIdeal.nD,
          r.2.mem ((c.tc : Thread Cert.SortedIdeal.nD Cert.SortedIdeal.τ).loc Cert.SortedIdeal.main_v8) = v0 c
          ∧ r.2.mem ((c.tc : Thread Cert.SortedIdeal.nD Cert.SortedIdeal.τ).loc Cert.SortedIdeal.main_arg0) = m' ((c.tc : Thread Cert.SortedIdeal.nD Cert.SortedIdeal.τ).loc Cert.SortedIdeal.main_arg0)
          ∧ r.2.mem ((c.tc : Thread Cert.SortedIdeal.nD Cert.SortedIdeal.τ).loc Cert.SortedIdeal.main_arg1) = m' ((c.tc : Thread Cert.SortedIdeal.nD Cert.SortedIdeal.τ).loc Cert.SortedIdeal.main_arg1))

def Claim : Prop :=
  ∃ (hKernel : Cert.Kernel.Facts) (hKernelIdeal : Cert.KernelIdeal.Facts) (hReferenceIdeal : Cert.ReferenceIdeal.Facts) (hSortedIdeal : Cert.SortedIdeal.Facts) (hPre_fits_KernelIdeal : Cert.Pre_fits_KernelIdeal.Facts) (hPre_fits_ReferenceIdeal : Cert.Pre_fits_ReferenceIdeal.Facts) (hPre_balanced : Cert.Pre_balanced.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ quiescent_ReferenceIdeal_pre_balanced (hReferenceIdeal := hReferenceIdeal) (hPre_balanced := hPre_balanced)
    ∧ quiescent_SortedIdeal (hSortedIdeal := hSortedIdeal)
    ∧ quiescent_SortedIdeal_pre_balanced (hSortedIdeal := hSortedIdeal) (hPre_balanced := hPre_balanced)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
    ∧ algebraic_ReferenceIdeal_SortedIdeal_pre_balanced (hReferenceIdeal := hReferenceIdeal) (hSortedIdeal := hSortedIdeal) (hPre_balanced := hPre_balanced)
-- ==== Pre_balanced.lean ====
abbrev S8192x256 : Shape := ⟨2, ![8192, 256]⟩
abbrev S8192 : Shape := ⟨1, ![8192]⟩
abbrev S16 : Shape := ⟨1, ![16]⟩
abbrev S1x8192 : Shape := ⟨2, ![1, 8192]⟩
abbrev S16x1 : Shape := ⟨2, ![16, 1]⟩
abbrev S16x8192 : Shape := ⟨2, ![16, 8192]⟩
abbrev S_ : Shape := ⟨0, ![]⟩

class Facts : Prop where
  bcast_S8192_S1x8192_1 : S8192.BroadcastsInDim S1x8192 (![1] : Fin 1 → Fin S1x8192.rank)
  bcast_S16_S16x1_0 : S16.BroadcastsInDim S16x1 (![0] : Fin 1 → Fin S16x1.rank)
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  natLt_1_32 : 1 < 32
  reducesTo_S16x8192_S16_d1 : S16x8192.ReducesTo [1] S16
  h_S_ : 0 < S_.numel
  bcast_S_S16 : S_.BroadcastsInDim S16 (![] : Fin 0 → Fin S16.rank)

variable [Facts]

def fn {F : FTy → Type} [FloatOps F] (main_arg0 : FVec F S8192x256 .bf16) (main_arg1 : IVec S8192 32) : IVec S16 1 :=
  let main_v0 : IVec S16 32 := iotaInDim S16 32 0
  let main_v1 : IVec S1x8192 32 := broadcastInDim S1x8192 ![1] bcast_S8192_S1x8192_1 main_arg1
  let main_v2 : IVec S16x1 32 := broadcastInDim S16x1 ![0] bcast_S16_S16x1_0 main_v0
  let main_v3 : IVec S16x8192 32 := broadcastInDim S16x8192 ![0, 1] bcast_S1x8192_S16x8192_0_1 main_v1
  let main_v4 : IVec S16x8192 32 := broadcastInDim S16x8192 ![0, 1] bcast_S16x1_S16x8192_0_1 main_v2
  let main_v5 : IVec S16x8192 1 := cmpi .eq main_v3 main_v4
  let main_v6 : IVec S16x8192 32 := (extui 32 · natLt_1_32) main_v5
  let main_c : IVec S_ 32 := constantI S_ 32 0#32
  let main_v7 : IVec S16 32 := (fun x v => Host.reduce IntOp.addi x v reducesTo_S16x8192_S16_d1 h_S_) main_v6 main_c
  let main_c_0 : IVec S_ 32 := constantI S_ 32 512#32
  let main_v8 : IVec S16 32 := broadcastInDim S16 ![] bcast_S_S16 main_c_0
  let main_v9 : IVec S16 1 := cmpi .eq main_v7 main_v8
  main_v9
-- ==== Pre_fits_KernelIdeal.lean ====
abbrev S512x256 : Shape := ⟨2, ![512, 256]⟩
abbrev S512 : Shape := ⟨1, ![512]⟩
abbrev S16 : Shape := ⟨1, ![16]⟩
abbrev S1x512 : Shape := ⟨2, ![1, 512]⟩
abbrev S16x1 : Shape := ⟨2, ![16, 1]⟩
abbrev S16x512 : Shape := ⟨2, ![16, 512]⟩
abbrev S_ : Shape := ⟨0, ![]⟩

class Facts : Prop where
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  natLt_1_32 : 1 < 32
  reducesTo_S16x512_S16_d1 : S16x512.ReducesTo [1] S16
  h_S_ : 0 < S_.numel
  bcast_S_S16 : S_.BroadcastsInDim S16 (![] : Fin 0 → Fin S16.rank)

variable [Facts]

def fn {F : FTy → Type} [FloatOps F] (main_arg0 : FVec F S512x256 .bf16) (main_arg1 : IVec S512 32) : IVec S16 1 :=
  let main_v0 : IVec S16 32 := iotaInDim S16 32 0
  let main_v1 : IVec S1x512 32 := broadcastInDim S1x512 ![1] bcast_S512_S1x512_1 main_arg1
  let main_v2 : IVec S16x1 32 := broadcastInDim S16x1 ![0] bcast_S16_S16x1_0 main_v0
  let main_v3 : IVec S16x512 32 := broadcastInDim S16x512 ![0, 1] bcast_S1x512_S16x512_0_1 main_v1
  let main_v4 : IVec S16x512 32 := broadcastInDim S16x512 ![0, 1] bcast_S16x1_S16x512_0_1 main_v2
  let main_v5 : IVec S16x512 1 := cmpi .eq main_v3 main_v4
  let main_v6 : IVec S16x512 32 := (extui 32 · natLt_1_32) main_v5
  let main_c : IVec S_ 32 := constantI S_ 32 0#32
  let main_v7 : IVec S16 32 := (fun x v => Host.reduce IntOp.addi x v reducesTo_S16x512_S16_d1 h_S_) main_v6 main_c
  let main_c_0 : IVec S_ 32 := constantI S_ 32 63#32
  let main_v8 : IVec S16 32 := broadcastInDim S16 ![] bcast_S_S16 main_c_0
  let main_v9 : IVec S16 1 := cmpi .sle main_v7 main_v8
  main_v9
-- ==== Pre_fits_ReferenceIdeal.lean ====
abbrev S8192x256 : Shape := ⟨2, ![8192, 256]⟩
abbrev S8192 : Shape := ⟨1, ![8192]⟩
abbrev S16 : Shape := ⟨1, ![16]⟩
abbrev S1x8192 : Shape := ⟨2, ![1, 8192]⟩
abbrev S16x1 : Shape := ⟨2, ![16, 1]⟩
abbrev S16x8192 : Shape := ⟨2, ![16, 8192]⟩
abbrev S_ : Shape := ⟨0, ![]⟩

class Facts : Prop where
  bcast_S8192_S1x8192_1 : S8192.BroadcastsInDim S1x8192 (![1] : Fin 1 → Fin S1x8192.rank)
  bcast_S16_S16x1_0 : S16.BroadcastsInDim S16x1 (![0] : Fin 1 → Fin S16x1.rank)
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  natLt_1_32 : 1 < 32
  reducesTo_S16x8192_S16_d1 : S16x8192.ReducesTo [1] S16
  h_S_ : 0 < S_.numel
  bcast_S_S16 : S_.BroadcastsInDim S16 (![] : Fin 0 → Fin S16.rank)

variable [Facts]

def fn {F : FTy → Type} [FloatOps F] (main_arg0 : FVec F S8192x256 .bf16) (main_arg1 : IVec S8192 32) : IVec S16 1 :=
  let main_v0 : IVec S16 32 := iotaInDim S16 32 0
  let main_v1 : IVec S1x8192 32 := broadcastInDim S1x8192 ![1] bcast_S8192_S1x8192_1 main_arg1
  let main_v2 : IVec S16x1 32 := broadcastInDim S16x1 ![0] bcast_S16_S16x1_0 main_v0
  let main_v3 : IVec S16x8192 32 := broadcastInDim S16x8192 ![0, 1] bcast_S1x8192_S16x8192_0_1 main_v1
  let main_v4 : IVec S16x8192 32 := broadcastInDim S16x8192 ![0, 1] bcast_S16x1_S16x8192_0_1 main_v2
  let main_v5 : IVec S16x8192 1 := cmpi .eq main_v3 main_v4
  let main_v6 : IVec S16x8192 32 := (extui 32 · natLt_1_32) main_v5
  let main_c : IVec S_ 32 := constantI S_ 32 0#32
  let main_v7 : IVec S16 32 := (fun x v => Host.reduce IntOp.addi x v reducesTo_S16x8192_S16_d1 h_S_) main_v6 main_c
  let main_c_0 : IVec S_ 32 := constantI S_ 32 63#32
  let main_v8 : IVec S16 32 := broadcastInDim S16 ![] bcast_S_S16 main_c_0
  let main_v9 : IVec S16 1 := cmpi .sle main_v7 main_v8
  main_v9
-- ==== Kernel.lean ====
abbrev S512x256 : Shape := ⟨2, ![512, 256]⟩
abbrev S512 : Shape := ⟨1, ![512]⟩
abbrev S1024x256 : Shape := ⟨2, ![1024, 256]⟩
abbrev S16 : Shape := ⟨1, ![16]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S16x1 : Shape := ⟨2, ![16, 1]⟩
abbrev S16x512 : Shape := ⟨2, ![16, 512]⟩
abbrev S1024x1 : Shape := ⟨2, ![1024, 1]⟩
abbrev S1024x512 : Shape := ⟨2, ![1024, 512]⟩
abbrev S1024x16 : Shape := ⟨2, ![1024, 16]⟩
abbrev S64x256 : Shape := ⟨2, ![64, 256]⟩
abbrev S1 : Shape := ⟨1, ![1]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S512, .i32⟩
  | .hbm, ⟨2, _⟩ => ⟨S512x256, .f32⟩
  | .local _ .vmem, ⟨0, _⟩ => ⟨S512x256, .bf16⟩
  | .local _ .vmem, ⟨1, _⟩ => ⟨S512, .i32⟩
  | .local _ .vmem, ⟨2, _⟩ => ⟨S512x256, .f32⟩
  | .local _ .vmem, ⟨3, _⟩ => ⟨S1024x256, .bf16⟩
  | .local _ .vmem, ⟨4, _⟩ => ⟨S1024x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_88 : BitVec 32 := 64#32
  let v165 : BitVec 32 := Scalar.muli v2 c64_i32_88
  let c0_i32_89 : BitVec 32 := 0#32
  ![v165.toNat, 0]
def k0_off2 (d0 : Dev nD) (c1_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v168 : BitVec 32 := Scalar.addi v2 c1_i32_91
  let c16_i32_92 : BitVec 32 := 16#32
  let v169 : BitVec 32 := Scalar.remsi v168 c16_i32_92
  let c64_i32_93 : BitVec 32 := 64#32
  let v170 : BitVec 32 := Scalar.muli v169 c64_i32_93
  let c0_i32_100 : BitVec 32 := 0#32
  ![v170.toNat, 0]
def k0_dev16 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_91 : BitVec 32 := 1#32
  let v168 : BitVec 32 := Scalar.addi v2 c1_i32_91
  let c16_i32_92 : BitVec 32 := 16#32
  let v169 : BitVec 32 := Scalar.remsi v168 c16_i32_92
  let c1_i32_97 : BitVec 32 := 1#32
  let v172 : BitVec 32 := Scalar.muli v169 c1_i32_97
  let v173 : BitVec 32 := Scalar.addi c0_i32_98 v172
  v173.toNat
def k0_dev17 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_101 : BitVec 32 := 2#32
  let v180 : BitVec 32 := Scalar.addi v2 c2_i32_101
  let c16_i32_102 : BitVec 32 := 16#32
  let v181 : BitVec 32 := Scalar.remsi v180 c16_i32_102
  let c1_i32_107 : BitVec 32 := 1#32
  let v184 : BitVec 32 := Scalar.muli v181 c1_i32_107
  let v185 : BitVec 32 := Scalar.addi c0_i32_108 v184
  v185.toNat
def k0_dev18 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_111 : BitVec 32 := 3#32
  let v192 : BitVec 32 := Scalar.addi v2 c3_i32_111
  let c16_i32_112 : BitVec 32 := 16#32
  let v193 : BitVec 32 := Scalar.remsi v192 c16_i32_112
  let c1_i32_117 : BitVec 32 := 1#32
  let v196 : BitVec 32 := Scalar.muli v193 c1_i32_117
  let v197 : BitVec 32 := Scalar.addi c0_i32_118 v196
  v197.toNat
def k0_dev19 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v204 : BitVec 32 := Scalar.addi v2 c4_i32_121
  let c16_i32_122 : BitVec 32 := 16#32
  let v205 : BitVec 32 := Scalar.remsi v204 c16_i32_122
  let c1_i32_127 : BitVec 32 := 1#32
  let v208 : BitVec 32 := Scalar.muli v205 c1_i32_127
  let v209 : BitVec 32 := Scalar.addi c0_i32_128 v208
  v209.toNat
def k0_dev20 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_131 : BitVec 32 := 5#32
  let v216 : BitVec 32 := Scalar.addi v2 c5_i32_131
  let c16_i32_132 : BitVec 32 := 16#32
  let v217 : BitVec 32 := Scalar.remsi v216 c16_i32_132
  let c1_i32_137 : BitVec 32 := 1#32
  let v220 : BitVec 32 := Scalar.muli v217 c1_i32_137
  let v221 : BitVec 32 := Scalar.addi c0_i32_138 v220
  v221.toNat
def k0_dev21 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_141 : BitVec 32 := 6#32
  let v228 : BitVec 32 := Scalar.addi v2 c6_i32_141
  let c16_i32_142 : BitVec 32 := 16#32
  let v229 : BitVec 32 := Scalar.remsi v228 c16_i32_142
  let c1_i32_147 : BitVec 32 := 1#32
  let v232 : BitVec 32 := Scalar.muli v229 c1_i32_147
  let v233 : BitVec 32 := Scalar.addi c0_i32_148 v232
  v233.toNat
def k0_dev22 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_151 : BitVec 32 := 7#32
  let v240 : BitVec 32 := Scalar.addi v2 c7_i32_151
  let c16_i32_152 : BitVec 32 := 16#32
  let v241 : BitVec 32 := Scalar.remsi v240 c16_i32_152
  let c1_i32_157 : BitVec 32 := 1#32
  let v244 : BitVec 32 := Scalar.muli v241 c1_i32_157
  let v245 : BitVec 32 := Scalar.addi c0_i32_158 v244
  v245.toNat
def k0_dev23 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_161 : BitVec 32 := 8#32
  let v252 : BitVec 32 := Scalar.addi v2 c8_i32_161
  let c16_i32_162 : BitVec 32 := 16#32
  let v253 : BitVec 32 := Scalar.remsi v252 c16_i32_162
  let c1_i32_167 : BitVec 32 := 1#32
  let v256 : BitVec 32 := Scalar.muli v253 c1_i32_167
  let v257 : BitVec 32 := Scalar.addi c0_i32_168 v256
  v257.toNat
def k0_dev24 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_171 : BitVec 32 := 9#32
  let v264 : BitVec 32 := Scalar.addi v2 c9_i32_171
  let c16_i32_172 : BitVec 32 := 16#32
  let v265 : BitVec 32 := Scalar.remsi v264 c16_i32_172
  let c1_i32_177 : BitVec 32 := 1#32
  let v268 : BitVec 32 := Scalar.muli v265 c1_i32_177
  let v269 : BitVec 32 := Scalar.addi c0_i32_178 v268
  v269.toNat
def k0_dev25 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v276 : BitVec 32 := Scalar.addi v2 c10_i32_181
  let c16_i32_182 : BitVec 32 := 16#32
  let v277 : BitVec 32 := Scalar.remsi v276 c16_i32_182
  let c1_i32_187 : BitVec 32 := 1#32
  let v280 : BitVec 32 := Scalar.muli v277 c1_i32_187
  let v281 : BitVec 32 := Scalar.addi c0_i32_188 v280
  v281.toNat
def k0_dev26 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_191 : BitVec 32 := 11#32
  let v288 : BitVec 32 := Scalar.addi v2 c11_i32_191
  let c16_i32_192 : BitVec 32 := 16#32
  let v289 : BitVec 32 := Scalar.remsi v288 c16_i32_192
  let c1_i32_197 : BitVec 32 := 1#32
  let v292 : BitVec 32 := Scalar.muli v289 c1_i32_197
  let v293 : BitVec 32 := Scalar.addi c0_i32_198 v292
  v293.toNat
def k0_dev27 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_201 : BitVec 32 := 12#32
  let v300 : BitVec 32 := Scalar.addi v2 c12_i32_201
  let c16_i32_202 : BitVec 32 := 16#32
  let v301 : BitVec 32 := Scalar.remsi v300 c16_i32_202
  let c1_i32_207 : BitVec 32 := 1#32
  let v304 : BitVec 32 := Scalar.muli v301 c1_i32_207
  let v305 : BitVec 32 := Scalar.addi c0_i32_208 v304
  v305.toNat
def k0_dev28 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_211 : BitVec 32 := 13#32
  let v312 : BitVec 32 := Scalar.addi v2 c13_i32_211
  let c16_i32_212 : BitVec 32 := 16#32
  let v313 : BitVec 32 := Scalar.remsi v312 c16_i32_212
  let c1_i32_217 : BitVec 32 := 1#32
  let v316 : BitVec 32 := Scalar.muli v313 c1_i32_217
  let v317 : BitVec 32 := Scalar.addi c0_i32_218 v316
  v317.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_221 : BitVec 32 := 14#32
  let v324 : BitVec 32 := Scalar.addi v2 c14_i32_221
  let c16_i32_222 : BitVec 32 := 16#32
  let v325 : BitVec 32 := Scalar.remsi v324 c16_i32_222
  let c1_i32_227 : BitVec 32 := 1#32
  let v328 : BitVec 32 := Scalar.muli v325 c1_i32_227
  let v329 : BitVec 32 := Scalar.addi c0_i32_228 v328
  v329.toNat
def k0_dev30 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_231 : BitVec 32 := 15#32
  let v336 : BitVec 32 := Scalar.addi v2 c15_i32_231
  let c16_i32_232 : BitVec 32 := 16#32
  let v337 : BitVec 32 := Scalar.remsi v336 c16_i32_232
  let c1_i32_237 : BitVec 32 := 1#32
  let v340 : BitVec 32 := Scalar.muli v337 c1_i32_237
  let v341 : BitVec 32 := Scalar.addi c0_i32_238 v340
  v341.toNat
def k0_off3 (d0 : Dev nD) (c1_i32_241 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v348 : BitVec 32 := Scalar.subi v2 c1_i32_241
  let c16_i32_242 : BitVec 32 := 16#32
  let v349 : BitVec 32 := Scalar.addi v348 c16_i32_242
  let c16_i32_243 : BitVec 32 := 16#32
  let v350 : BitVec 32 := Scalar.remsi v349 c16_i32_243
  let c64_i32_245 : BitVec 32 := 64#32
  let v352 : BitVec 32 := Scalar.muli v350 c64_i32_245
  let c0_i32_250 : BitVec 32 := 0#32
  ![v352.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S16 : Shape := ⟨1, ![16]⟩
abbrev S1x8192 : Shape := ⟨2, ![1, 8192]⟩
abbrev S16x1 : Shape := ⟨2, ![16, 1]⟩
abbrev S16x8192 : Shape := ⟨2, ![16, 8192]⟩
abbrev S512 : Shape := ⟨1, ![512]⟩
abbrev S1x512 : Shape := ⟨2, ![1, 512]⟩
abbrev S16x512 : Shape := ⟨2, ![16, 512]⟩
abbrev S16x512x1 : Shape := ⟨3, ![16, 512, 1]⟩
abbrev S16x512x256 : Shape := ⟨3, ![16, 512, 256]⟩

abbrev nBuf : Space → Nat
  | .hbm => 62
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x256, .bf16⟩
  | .hbm, ⟨14, _⟩ => ⟨S16, .i32⟩
  | .hbm, ⟨15, _⟩ => ⟨S1x8192, .i32⟩
  | .hbm, ⟨16, _⟩ => ⟨S16x1, .i32⟩
  | .hbm, ⟨17, _⟩ => ⟨S16x8192, .i32⟩
  | .hbm, ⟨18, _⟩ => ⟨S16x8192, .i32⟩
  | .hbm, ⟨19, _⟩ => ⟨S16x8192, .i1⟩
  | .hbm, ⟨20, _⟩ => ⟨S16x8192, .i32⟩
  | .hbm, ⟨21, _⟩ => ⟨S_, .i32⟩
  | .hbm, ⟨22, _⟩ => ⟨S16, .i32⟩
  | .hbm, ⟨23, _⟩ => ⟨S1x8192, .i32⟩
  | .hbm, ⟨24, _⟩ => ⟨S16x1, .i32⟩
  | .hbm, ⟨25, _⟩ => ⟨S16x8192, .i32⟩
  | .hbm, ⟨26, _⟩ => ⟨S16x8192, .i32⟩
  | .hbm, ⟨27, _⟩ => ⟨S16x8192, .i1⟩
  | .hbm, ⟨28, _⟩ => ⟨S16x8192, .i32⟩
  | .hbm, ⟨29, _⟩ => ⟨S_, .i32⟩
  | .hbm, ⟨30, _⟩ => ⟨S16, .i32⟩
  | .hbm, ⟨31, _⟩ => ⟨S512, .i32⟩
  | .hbm, ⟨32, _⟩ => ⟨S16x1, .i32⟩
  | .hbm, ⟨33, _⟩ => ⟨S1x512, .i32⟩
  | .hbm, ⟨34, _⟩ => ⟨S16x512, .i32⟩
  | .hbm, ⟨35, _⟩ => ⟨S16x512, .i32⟩
  | .hbm, ⟨36, _⟩ => ⟨S16x512, .i32⟩
  | .hbm, ⟨37, _⟩ => ⟨S_, .i32⟩
  | .hbm, ⟨38, _⟩ => ⟨S16x512, .i32⟩
  | .hbm, ⟨39, _⟩ => ⟨S16x512, .i32⟩
  | .hbm, ⟨40, _⟩ => ⟨S_, .i32⟩
  | .hbm, ⟨41, _⟩ => ⟨S16x512, .i32⟩
  | .hbm, ⟨42, _⟩ => ⟨S16x512, .i1⟩
  | .hbm, ⟨43, _⟩ => ⟨S_, .i32⟩
  | .hbm, ⟨44, _⟩ => ⟨S16x512, .i32⟩
  | .hbm, ⟨45, _⟩ => ⟨S16x512, .i32⟩
  | .hbm, ⟨46, _⟩ => ⟨S16x512, .i32⟩
  | .hbm, ⟨47, _⟩ => ⟨S16x512x1, .i32⟩
  | .hbm, ⟨48, _⟩ => ⟨S16x512x256, .bf16⟩
  | .hbm, ⟨49, _⟩ => ⟨S1x512, .i32⟩
  | .hbm, ⟨50, _⟩ => ⟨S16x1, .i32⟩
  | .hbm, ⟨51, _⟩ => ⟨S16x512, .i32⟩
  | .hbm, ⟨52, _⟩ => ⟨S16x512, .i32⟩
  | .hbm, ⟨53, _⟩ => ⟨S16x512, .i1⟩
  | .hbm, ⟨54, _⟩ => ⟨S16x512x1, .i1⟩
  | .hbm, ⟨55, _⟩ => ⟨S_, .i32⟩
  | .hbm, ⟨56, _⟩ => ⟨S_, .bf16⟩
  | .hbm, ⟨57, _⟩ => ⟨S16x512x256, .i1⟩
  | .hbm, ⟨58, _⟩ => ⟨S16x512x256, .bf16⟩
  | .hbm, ⟨59, _⟩ => ⟨S16x512x256, .bf16⟩
  | .hbm, ⟨60, _⟩ => ⟨S8192x256, .bf16⟩
  | .hbm, ⟨61, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== SortedIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x256, .bf16⟩
  | .hbm, ⟨14, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Protocol.lean ====
/-
# The exchange: the cells, who pays them, and what each landing hands over

Sixteen devices; device `c` cuts its rows in sixteen blocks of 64 (one per destination) and copies block
`c + k` of its send buffer into slot `c` of device `c + k`'s receive buffer, for `k = 1 … 15`; its own block
`c` goes by a local copy. Device arithmetic is that of `Fin 16`: the device `k` steps after `c` is `c + k`.

One round. The cells of device `c`:

* the barrier cell: fifteen units, one from every other device. The unit from device `c + d` (duty `d ≠ 0`)
  hands `c` slot `c` of device `c + d`'s receive buffer, which `c` is then free to write;
* the send cell `k ≠ 0`: the block's credit, paid by the machine once block `c + k` has been read; it hands
  the block back;
* the receive cell `k ≠ 0`: the block's credit, paid by the copy of device `c - k`; it hands over slot
  `c - k` of `c`'s receive buffer, holding block `c` of what device `c - k` packed;
* the local cell: the block's credit, paid by the local copy; it hands over slot `c` filled, and block `c`
  of the send buffer back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties in `Fin 16`) -/

abbrev UX : Type := URounds (GSem nD τ sig) (Fin 16)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers and semaphores -/

abbrev xM : Memref sig .tc .vmem S512x256 .bf16 := Memref.whole cc0_stg0_0
abbrev dM : Memref sig .tc .vmem S512 .i32 := Memref.whole cc0_stg1_0
abbrev oM : Memref sig .tc .vmem S512x256 .f32 := Memref.whole cc0_stg2_0
abbrev sM : Memref sig .tc .vmem S1024x256 .bf16 := Memref.whole cc0_scratch0
abbrev rM : Memref sig .tc .vmem S1024x256 .bf16 := Memref.whole cc0_scratch1

abbrev barS : Sem sig := (SemArray.scalar (sig.barrier 0 rfl) : Sems sig S_).sem
/-- The send semaphore of offset `k`, the receive semaphore of offset `k`, the local copy's semaphore. -/
abbrev sendS (k : Fin 16) : DmaSem sig := ⟨3 + k.val, by have := k.isLt; show _ < 36; omega⟩
abbrev recvS (k : Fin 16) : DmaSem sig := ⟨19 + k.val, by have := k.isLt; show _ < 36; omega⟩
abbrev locS : DmaSem sig := ⟨35, by show _ < 36; omega⟩

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))
abbrev locCell (c : Dev nD) : GSem nD τ sig := ((c : Thread nD τ), .dma locS)

/-- Block `j`: rows `64 j … 64 j + 63`. -/
theorem blk_inb (j : Fin 16) : ∀ a, (![64 * j.val, 0] : Fin 2 → Nat) a + S64x256.size a ≤ S1024x256.size a := by
  intro a; have := j.isLt; fin_cases a
  · show 64 * j.val + 64 ≤ 1024; omega
  · show 0 + 256 ≤ 256; omega
abbrev blkR (j : Fin 16) : Rect S1024x256 := Rect.unit (s := S1024x256) ![64 * j.val, 0] S64x256.size (blk_inb j)
abbrev blkOf (M : Memref sig .tc .vmem S1024x256 .bf16) (j : Fin 16) : Memref sig .tc .vmem S64x256 .bf16 :=
  M.slice (blkR j) (fun _ => rfl)
/-- The elements of block `j`. -/
abbrev bset (j : Fin 16) : Finset S1024x256.Idx := (blkR j).set

theorem mem_bset {j : Fin 16} {i : S1024x256.Idx} : i ∈ bset j ↔ (i 0).val / 64 = j.val := by
  rw [Rect.mem_set_unit]
  have h1 : (i 1).val < 256 := (i 1).isLt
  constructor
  · intro h; have := h 0
    change 64 * j.val ≤ (i 0).val ∧ (i 0).val < 64 * j.val + 64 at this; omega
  · intro h a; fin_cases a
    · show 64 * j.val ≤ (i 0).val ∧ (i 0).val < 64 * j.val + 64; omega
    · show 0 ≤ (i 1).val ∧ (i 1).val < 0 + 256; omega

theorem blk_emb_of_mem {j : Fin 16} {i : S1024x256.Idx} (h : i ∈ bset j) : ∃ x : S64x256.Idx, (blkR j).emb x = i := by
  have hj := mem_bset.mp h
  refine ⟨fun a => match a with
    | ⟨0, _⟩ => ⟨(i 0).val % 64, Nat.mod_lt _ (by decide)⟩
    | ⟨1, _⟩ => i 1, funext fun a => Fin.ext ?_⟩
  fin_cases a
  · show 64 * j.val + 1 * ((i 0).val % 64) = (i 0).val; omega
  · show 0 + 1 * (i 1).val = (i 1).val; omega

theorem bset_disjoint (j j' : Fin 16) (h : j ≠ j') : Disjoint (bset j) (bset j') :=
  Finset.disjoint_left.mpr fun i hi hi' => h (Fin.ext ((mem_bset.mp hi).symm.trans (mem_bset.mp hi')))

theorem bset_cover : Finset.univ.biUnion bset = Finset.univ := by
  ext i; simp only [Finset.mem_biUnion, Finset.mem_univ, true_and, iff_true]
  have h0 : (i 0).val < 1024 := (i 0).isLt
  exact ⟨⟨(i 0).val / 64, by omega⟩, mem_bset.mpr rfl⟩

/-- The credit of one block's transfer. -/
abbrev N : ℕ := (blkOf rM 0).view.dmaCredit
theorem N_pos : 0 < N := View.dmaCredit_pos _ (by decide)

/-! ## Contents -/

/-- Device `c`'s block of `x` and of `dest`, staged. -/
def xstg (c : Dev nD) : (cc0_stg0_0 : Ref sig .tc).ty.Contents (Elt F) :=
  (win0_0.blk (0 : Fin 1)).view.read (Elt F) ((s₀ m ρ).mem ((c : Thread nD τ).loc main_arg0))
def dstg (c : Dev nD) : (cc0_stg1_0 : Ref sig .tc).ty.Contents (Elt F) :=
  (win0_1.blk (0 : Fin 1)).view.read (Elt F) ((s₀ m ρ).mem ((c : Thread nD τ).loc main_arg1))

abbrev sel64 : BitVec 32 := Scalar.select (Scalar.cmpi .eq 64#32 0#32) 1#32 64#32

/-- What a device packs into its send buffer, from its destinations and rows. -/
def packed (d : Vec F S512 .i32) (x : Vec F S512x256 .bf16) : Vec F S1024x256 .bf16 :=
  k0_pay11 (k0_pay1 d) (k0_pay3 (k0_pay2 d d)) (k0_pay4 (F := F) (k0_pay1 d)) k0_pay5 sel64 k0_pay6 k0_pay7 k0_pay8 x

def sendAll (c : Dev nD) : (cc0_scratch0 : Ref sig .tc).ty.Contents (Elt F) := packed (dstg m ρ c) (xstg m ρ c)

/-- Row `i` of block `c` of the whole sixteen-block buffer. -/
def inBlk (c : Fin 16) (i : S1024x256.Idx) : S1024x256.Idx := fun a => match a with
  | ⟨0, _⟩ => ⟨64 * c.val + (i 0).val % 64, by have := c.isLt; show _ < 1024; omega⟩
  | ⟨1, _⟩ => i 1

/-- What device `c`'s receive buffer holds once every copy has landed: slot `s` is block `c` of what device `s` packed. -/
def recvAll (c : Dev nD) : (cc0_scratch1 : Ref sig .tc).ty.Contents (Elt F) := fun i =>
  sendAll m ρ (⟨(i 0).val / 64, by have h : (i 0).val < 1024 := (i 0).isLt; show _ < 16; omega⟩ : Dev nD) (inBlk c i)

/-- What a device unpacks from its receive buffer. -/
def unpacked (r : Vec F S1024x256 .bf16) : Vec F S512x256 .f32 :=
  k0_pay15 (k0_pay9 sel64 k0_pay6 k0_pay7 k0_pay8) r (k0_pay13 k0_pay5 r) (k0_pay14 (k0_pay10 (F := F) k0_pay5) r)

/-- The kernel's result on device `c`. -/
def outAt (c : Dev nD) : (cc0_stg2_0 : Ref sig .tc).ty.Contents (Elt F) := unpacked (recvAll m ρ c)

/-! ## Blocks held -/

/-- Slot `s` of device `c`'s receive buffer, holding `f`'s there. -/
def slotPts (c : Dev nD) (s : Fin 16) (f : Buf (Elt F) ((c : Thread nD τ).loc cc0_scratch1)) : sProp 𝕄 :=
  ((c : Thread nD τ).loc cc0_scratch1) ↦[bset s]{fullShare} f
/-- Block `j` of device `c`'s send buffer. -/
def sblkPts (c : Dev nD) (j : Fin 16) (f : Buf (Elt F) ((c : Thread nD τ).loc cc0_scratch0)) : sProp 𝕄 :=
  ((c : Thread nD τ).loc cc0_scratch0) ↦[bset j]{fullShare} f

omit [FloatOps F] in
instance slotPts_storable (c : Dev nD) (s) (f) : BI.Storable (upEmb : UEmb _ 𝕄) (slotPts (F := F) c s f) := by unfold slotPts; infer_instance
omit [FloatOps F] in
instance sblkPts_storable (c : Dev nD) (s) (f) : BI.Storable (upEmb : UEmb _ 𝕄) (sblkPts (F := F) c s f) := by unfold sblkPts; infer_instance

omit [FloatOps F] in
theorem recv_split (c : Dev nD) (f : Buf (Elt F) ((c : Thread nD τ).loc cc0_scratch1)) :
    ((((c : Thread nD τ).loc cc0_scratch1) ↦{fullShare} f : sProp 𝕄)) = bigSep Finset.univ fun s => slotPts c s f :=
  Ring.pointsTo_blocks (ℓ := (c : Thread nD τ).loc cc0_scratch1) bset bset_disjoint bset_cover f
omit [FloatOps F] in
theorem send_split (c : Dev nD) (f : Buf (Elt F) ((c : Thread nD τ).loc cc0_scratch0)) :
    ((((c : Thread nD τ).loc cc0_scratch0) ↦{fullShare} f : sProp 𝕄)) = bigSep Finset.univ fun s => sblkPts c s f :=
  Ring.pointsTo_blocks (ℓ := (c : Thread nD τ).loc cc0_scratch0) bset bset_disjoint bset_cover f

omit [FloatOps F] in
theorem blkOf_set_r (j : Fin 16) : (blkOf rM j).view.set = bset j := View.set_slice_whole cc0_scratch1 (blkR j)
omit [FloatOps F] in
theorem blkOf_set_s (j : Fin 16) : (blkOf sM j).view.set = bset j := View.set_slice_whole cc0_scratch0 (blkR j)

/-- A copy of block `c` of what device `s` packed into slot `s`, whatever the slot held before, leaves what
    `recvAll c` says there. -/
theorem landed_eq (c s : Dev nD) (fd : Buf (Elt F) ((c : Thread nD τ).loc cc0_scratch1)) (i : S1024x256.Idx) (hi : i ∈ bset s) :
    (blkOf rM s).view.write (Elt F) fd ((blkOf sM c).view.read (Elt F) (sendAll m ρ s)) Finset.univ i = recvAll m ρ c i := by
  obtain ⟨x, rfl⟩ := blk_emb_of_mem hi
  refine (View.write_emb_of_mem (Val := Elt F) (v := (blkOf rM s).view) fd _ (Finset.mem_univ x)).trans ?_
  show sendAll m ρ s ((blkR c).emb x) = sendAll m ρ _ (inBlk c ((blkR s).emb x))
  have hx : (x 0).val < 64 := (x 0).isLt
  have e0 : (((blkR s).emb x) 0).val = 64 * s.val + (x 0).val := by
    show 64 * s.val + 1 * (x 0).val = _; omega
  congr 1
  · exact Fin.ext (by show s.val = (((blkR s).emb x) 0).val / 64; rw [e0]; omega)
  · funext a; apply Fin.ext; fin_cases a
    · show 64 * c.val + 1 * (x 0).val = 64 * c.val + (((blkR s).emb x) 0).val % 64; rw [e0]; omega
    · rfl

/-! ## The schedule -/

/-- What device `t + d`'s unit on `t`'s barrier cell hands `t`: slot `t` of device `t + d`'s receive buffer. -/
def barPay (t : Dev nD) (d : Fin 16) : sProp 𝕄 := iprop(∃ f, slotPts (t + d : Fin 16) t f)
def sendPay (c : Dev nD) (k : Fin 16) : sProp 𝕄 := sblkPts c (c + k) (sendAll m ρ c)
def recvPay (c : Dev nD) (k : Fin 16) : sProp 𝕄 := slotPts c (c - k) (recvAll m ρ c)
def locPay (c : Dev nD) : sProp 𝕄 := iprop(slotPts c c (recvAll m ρ c) ∗ sblkPts c c (sendAll m ρ c))

/-- The duties of a cell: a barrier cell's are the other devices; a used transfer cell's is one. -/
def dutiesOf : SemLoc sig → Finset (Fin 16)
  | .reg s => if s = barS then Finset.univ.erase 0 else ∅
  | .dma s => if 3 < s.val ∧ s.val ≠ 19 then {0} else ∅

def amountOf : SemLoc sig → ℕ
  | .reg _ => 1
  | .dma _ => N

/-- Which of the sixteen offsets a semaphore number is, counted from `b`. -/
def offOf (b : ℕ) (n : ℕ) : Fin 16 := ⟨(n - b) % 16, Nat.mod_lt _ (by decide)⟩

def payOf (c : Dev nD) (d : Fin 16) : SemLoc sig → sProp 𝕄
  | .reg _ => barPay c d
  | .dma s => if s.val < 19 then sendPay m ρ c (offOf 3 s.val) else if s.val < 35 then recvPay m ρ c (offOf 19 s.val) else locPay m ρ c

def xRd : Rounds.Schedule (GSem nD τ sig) (Fin 16) 𝕄 where
  duties g r := if r = 0 ∧ g.1.2 = .tc then dutiesOf g.2 else ∅
  unitless _ := False
  amount g _ _ := amountOf g.2
  payload g _ d := payOf m ρ g.1.1 d g.2
  amount_pos g _ _ _ := by
    rcases g with ⟨_, s | s⟩
    · exact Nat.one_pos
    · exact N_pos

instance xRd_payload_storable (g : GSem nD τ sig) (r : ℕ) (d : Fin 16) :
    BI.Storable (upEmb : UEmb _ 𝕄) ((xRd (F := F) m ρ).payload g r d) := by
  show BI.Storable upEmb (payOf m ρ g.1.1 d g.2)
  rcases g with ⟨⟨c, _⟩, s | s⟩
  · unfold payOf barPay; infer_instance
  · unfold payOf sendPay recvPay locPay
    dsimp only
    (repeat' split) <;> infer_instance

section Sched
variable (c : Dev nD)

theorem offOf_send (k : Fin 16) : offOf 3 (sendS k).val = k := Fin.ext (by have := k.isLt; show (3 + k.val - 3) % 16 = k.val; omega)
theorem offOf_recv (k : Fin 16) : offOf 19 (recvS k).val = k := Fin.ext (by have := k.isLt; show (19 + k.val - 19) % 16 = k.val; omega)

theorem duties_zero (g : GSem nD τ sig) (h : g.1.2 = .tc) : (xRd (F := F) m ρ).duties g 0 = dutiesOf g.2 := if_pos ⟨rfl, h⟩
theorem duties_bar : (xRd (F := F) m ρ).duties (barCell c) 0 = Finset.univ.erase 0 := by
  rw [duties_zero m ρ _ rfl]; unfold dutiesOf; exact if_pos rfl
theorem duties_send (k : Fin 16) (hk : k ≠ 0) : (xRd (F := F) m ρ).duties (sendCell c k) 0 = {0} := by
  rw [duties_zero m ρ _ rfl]; unfold dutiesOf
  have h0 : k.val ≠ 0 := fun h => hk (Fin.ext h)
  have := k.isLt
  exact if_pos ⟨by show 3 < 3 + k.val; omega, by show 3 + k.val ≠ 19; omega⟩
theorem duties_recv (k : Fin 16) (hk : k ≠ 0) : (xRd (F := F) m ρ).duties (recvCell c k) 0 = {0} := by
  rw [duties_zero m ρ _ rfl]; unfold dutiesOf
  have h0 : k.val ≠ 0 := fun h => hk (Fin.ext h)
  exact if_pos ⟨by show 3 < 19 + k.val; omega, by show 19 + k.val ≠ 19; omega⟩
theorem duties_loc : (xRd (F := F) m ρ).duties (locCell c) 0 = {0} := by
  rw [duties_zero m ρ _ rfl]; unfold dutiesOf
  exact if_pos ⟨by show 3 < 35; omega, by show 35 ≠ 19; omega⟩
theorem duties_later (g : GSem nD τ sig) : ∀ r, 1 ≤ r → (xRd (F := F) m ρ).duties g r = ∅ :=
  fun r hr => if_neg fun h => by omega
/-- The cells of offset 0 are never used: no duty in any round. -/
theorem duties_unused_send : ∀ r, 0 ≤ r → (xRd (F := F) m ρ).duties (sendCell c 0) r = ∅ := fun r _ => by
  dsimp only [xRd]
  split
  · unfold dutiesOf; exact if_neg fun h => absurd h.1 (by show ¬ (3 < 3 + 0); omega)
  · rfl
theorem duties_unused_recv : ∀ r, 0 ≤ r → (xRd (F := F) m ρ).duties (recvCell c 0) r = ∅ := fun r _ => by
  dsimp only [xRd]
  split
  · unfold dutiesOf; exact if_neg fun h => absurd h.2 (by show ¬ (19 + 0 ≠ 19); omega)
  · rfl

theorem expect_bar : (xRd (F := F) m ρ).expect (barCell c) 0 = 15 := by
  unfold Schedule.expect Schedule.amountOf
  rw [duties_bar, Finset.sum_congr rfl fun d _ => show (xRd (F := F) m ρ).amount (barCell c) 0 d = 1 from rfl]
  decide
theorem expect_send (k : Fin 16) (hk : k ≠ 0) : (xRd (F := F) m ρ).expect (sendCell c k) 0 = N := by
  unfold Schedule.expect Schedule.amountOf; rw [duties_send m ρ c k hk, Finset.sum_singleton]; rfl
theorem expect_recv (k : Fin 16) (hk : k ≠ 0) : (xRd (F := F) m ρ).expect (recvCell c k) 0 = N := by
  unfold Schedule.expect Schedule.amountOf; rw [duties_recv m ρ c k hk, Finset.sum_singleton]; rfl
theorem expect_loc : (xRd (F := F) m ρ).expect (locCell c) 0 = N := by
  unfold Schedule.expect Schedule.amountOf; rw [duties_loc m ρ c, Finset.sum_singleton]; rfl

theorem payload_bar (d : Fin 16) : (xRd (F := F) m ρ).payload (barCell c) 0 d = barPay c d := rfl
theorem payload_send (k d : Fin 16) : (xRd (F := F) m ρ).payload (sendCell c k) 0 d = sendPay m ρ c k := by
  show payOf m ρ c d (.dma (sendS k)) = _
  unfold payOf; dsimp only
  rw [if_pos (by have := k.isLt; show 3 + k.val < 19; omega), offOf_send]
theorem payload_recv (k d : Fin 16) : (xRd (F := F) m ρ).payload (recvCell c k) 0 d = recvPay m ρ c k := by
  show payOf m ρ c d (.dma (recvS k)) = _
  unfold payOf; dsimp only
  rw [if_neg (by show ¬ (19 + k.val < 19); omega), if_pos (by have := k.isLt; show 19 + k.val < 35; omega), offOf_recv]
theorem payload_loc (d : Fin 16) : (xRd (F := F) m ρ).payload (locCell c) 0 d = locPay m ρ c := by
  show payOf m ρ c d (.dma locS) = _
  unfold payOf; dsimp only
  rw [if_neg (by show ¬ (35 < 19); omega), if_neg (by show ¬ (35 < 35); omega)]

theorem rest_bar : bigSep ((xRd (F := F) m ρ).duties (barCell c) 0 \ ∅) (fun d => (xRd (F := F) m ρ).payload (barCell c) 0 d)
    = bigSep (Finset.univ.erase 0) fun d => barPay (F := F) c d := by
  rw [Finset.sdiff_empty, duties_bar]; rfl
theorem rest_send (k : Fin 16) (hk : k ≠ 0) :
    bigSep ((xRd (F := F) m ρ).duties (sendCell c k) 0 \ ∅) (fun d => (xRd (F := F) m ρ).payload (sendCell c k) 0 d) = sendPay m ρ c k := by
  rw [Finset.sdiff_empty, duties_send m ρ c k hk, bigSep_singleton, payload_send]
theorem rest_recv (k : Fin 16) (hk : k ≠ 0) :
    bigSep ((xRd (F := F) m ρ).duties (recvCell c k) 0 \ ∅) (fun d => (xRd (F := F) m ρ).payload (recvCell c k) 0 d) = recvPay m ρ c k := by
  rw [Finset.sdiff_empty, duties_recv m ρ c k hk, bigSep_singleton, payload_recv]
theorem rest_loc :
    bigSep ((xRd (F := F) m ρ).duties (locCell c) 0 \ ∅) (fun d => (xRd (F := F) m ρ).payload (locCell c) 0 d) = locPay m ρ c := by
  rw [Finset.sdiff_empty, duties_loc m ρ c, bigSep_singleton, payload_loc]

end Sched

/-! ## What each device owes at launch; the levels -/

/-- The offsets from `j` on. -/
def from_ (j : ℕ) : Finset (Fin 16) := Finset.univ.filter fun k => j ≤ k.val

theorem from_succ (k : Fin 16) : from_ k.val = insert k (from_ (k.val + 1)) := by
  ext x; simp only [from_, Finset.mem_filter, Finset.mem_univ, true_and, Finset.mem_insert, Fin.ext_iff]; omega
theorem not_mem_from_succ (k : Fin 16) : k ∉ from_ (k.val + 1) := by
  simp only [from_, Finset.mem_filter, Finset.mem_univ, true_and]; omega
theorem from_one : from_ 1 = Finset.univ.erase 0 := by decide
theorem from_16 : from_ 16 = ∅ := by decide
theorem mem_from_one {k : Fin 16} : k ∈ from_ 1 ↔ k ≠ 0 := by rw [from_one]; simp

/-- Device `c` still owes the copies of the offsets from `j` on: the block's credit on the receive cell `k` of `c + k`; -/
def owesCopies (c : Dev nD) (j : ℕ) : CellTallies nD τ sig Unit := ∑ k ∈ from_ j, tallyAt (recvCell (c + k : Fin 16) k) () N
/-- and a unit to the barrier of `c + k`. -/
def owesUnits (c : Dev nD) (j : ℕ) : CellTallies nD τ sig Unit := ∑ k ∈ from_ j, tallyAt (barCell (c + k : Fin 16)) () 1
def owesBoth (c : Dev nD) (j : ℕ) : CellTallies nD τ sig Unit := owesCopies c 1 + owesUnits c j
def O₀ (c : Dev nD) : CellTallies nD τ sig Unit := owesBoth c 1

theorem owesCopies_step (c : Dev nD) (k : Fin 16) :
    owesCopies c k.val = owesCopies c (k.val + 1) + tallyAt (recvCell (c + k : Fin 16) k) () N := by
  unfold owesCopies; rw [from_succ, Finset.sum_insert (not_mem_from_succ k), add_comm]
theorem owesBoth_step (c : Dev nD) (k : Fin 16) :
    owesBoth c k.val = owesBoth c (k.val + 1) + tallyAt (barCell (c + k : Fin 16)) () 1 := by
  unfold owesBoth owesUnits; rw [from_succ, Finset.sum_insert (not_mem_from_succ k), add_comm (tallyAt _ _ _), ← add_assoc]
theorem owesCopies_16 (c : Dev nD) : owesCopies c 16 = 0 := by unfold owesCopies; rw [from_16, Finset.sum_empty]
theorem owesBoth_16 (c : Dev nD) : owesBoth c 16 = owesCopies c 1 := by
  unfold owesBoth owesUnits; rw [from_16, Finset.sum_empty, add_zero]

def L (g : GSem nD τ sig) : Finset Unit := if g.1.2 = .tc then {()} else ∅
/-- Barrier cells at level 1, receive cells at 2, everything else at 0. -/
def lvOf : SemLoc sig → ℕ
  | .reg _ => 1
  | .dma s => if 19 ≤ s.val ∧ s.val < 35 then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 16) : lv (recvCell c k) () = 2 :=
  if_pos ⟨by show 19 ≤ 19 + k.val; omega, by have := k.isLt; show 19 + k.val < 35; omega⟩

theorem sum_tally_pos {I : Type} {S : Finset I} {f : I → CellTallies nD τ sig Unit} {g : GSem nD τ sig} {u : Unit}
    (h : 0 < (∑ k ∈ S, f k) g u) : ∃ k ∈ S, 0 < f k g u := by
  classical
  induction S using Finset.induction_on with
  | empty => rw [Finset.sum_empty] at h; exact absurd h (Nat.lt_irrefl 0)
  | insert a S ha ih =>
    rw [Finset.sum_insert ha, Pi.add_apply, Finsupp.add_apply] at h
    rcases Nat.eq_zero_or_pos (f a g u) with h0 | h0
    · rw [h0, Nat.zero_add] at h
      obtain ⟨k, hk, hp⟩ := ih h
      exact ⟨k, Finset.mem_insert_of_mem hk, hp⟩
    · exact ⟨a, Finset.mem_insert_self _ _, h0⟩

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owesCopies_pos {c : Dev nD} {j : ℕ} {g : GSem nD τ sig} {u : Unit} (h : 0 < owesCopies c j g u) :
    ∃ k : Fin 16, g = recvCell (c + k : Fin 16) k := by
  obtain ⟨k, _, hk⟩ := sum_tally_pos h
  exact ⟨k, tally_pos hk⟩

theorem O₀_pos {c : Dev nD} {g : GSem nD τ sig} {u : Unit} (h : 0 < O₀ c g u) :
    ∃ k : Fin 16, g = recvCell (c + k : Fin 16) k ∨ g = barCell (c + k : Fin 16) := by
  unfold O₀ owesBoth at h
  rw [Pi.add_apply, Finsupp.add_apply] at h
  rcases Nat.eq_zero_or_pos (owesCopies c 1 g u) with h0 | h0
  · rw [h0, Nat.zero_add] at h
    obtain ⟨k, _, hk⟩ := sum_tally_pos h
    exact ⟨k, .inr (tally_pos hk)⟩
  · obtain ⟨k, hk⟩ := owesCopies_pos h0
    exact ⟨k, .inl hk⟩

omit [FloatOps F] in
/-- A staging wait, under all that is owed at launch or under nothing. -/
theorem mayWait_stage (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by
        rw [Finset.mem_singleton.mp hp]
        show lvOf (.dma q) ≤ 0
        unfold lvOf; dsimp only; rw [if_neg (fun h => by omega)])
      (fun g u hg => by
        obtain ⟨k, rfl | rfl⟩ := O₀_pos hg
        · show 0 < lv (recvCell _ k) ()
          rw [lv_recv]; decide
        · exact Nat.one_pos)
  · rw [MayWait_zero]; iintro -; iempintro

omit [FloatOps F] in
/-- At its barrier wait a device owes only receive credit, above its barrier cell. -/
theorem mayWait_bar (c : Dev nD) : (levAts L lv : sProp 𝕄) ⊢ MayWait (c : Thread nD τ) (.reg barS) () (owesCopies c 1) :=
  MayOwe.of_cut (L := L) (lev := lv) 1 (fun p hp => by rw [Finset.mem_singleton.mp hp, L_tc]; exact Finset.mem_singleton_self _)
    (fun g u hg => by obtain ⟨k, rfl⟩ := owesCopies_pos hg; exact Finset.mem_singleton_self _)
    (fun p hp => by rw [Finset.mem_singleton.mp hp]; exact le_refl 1)
    (fun g u hg => by
      obtain ⟨k, rfl⟩ := owesCopies_pos hg
      show 1 < lv (recvCell _ k) ()
      rw [lv_recv]; decide)

end Cert.Exchange

end
-- ==== Proof.Steps.lean ====
/-
# The exchange, one operation at a time

What a device holds at each point of each phase, and one rule per kind of operation: a barrier unit, the
barrier wait, the local copy, a copy to another device, a wait on a receive, send or local cell. Every rule
names its offset `k` and moves it from the offsets still to do (`from_`) to the offsets done (`upto`).
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, numbered; the invariants and reached marks of all of them -/

/-- Number `n < 33` is the `n`-th of the kernel's own transfer semaphores, number 33 the barrier. -/
def csem (n : Fin 34) : SemLoc sig :=
  if h : n.val < 33 then .dma ⟨3 + n.val, by show _ < 36; omega⟩ else .reg barS
abbrev kcell (cn : Dev nD × Fin 34) : GSem nD τ sig := ((cn.1 : Thread nD τ), csem cn.2)

abbrev nSend (k : Fin 16) : Fin 34 := ⟨k.val, by have := k.isLt; omega⟩
abbrev nRecv (k : Fin 16) : Fin 34 := ⟨16 + k.val, by have := k.isLt; omega⟩
abbrev nLoc : Fin 34 := 32
abbrev nBar : Fin 34 := 33

theorem kcell_send (c : Dev nD) (k : Fin 16) : kcell (c, nSend k) = sendCell c k :=
  Prod.ext rfl (dif_pos (by have := k.isLt; show k.val < 33; omega))
theorem kcell_recv (c : Dev nD) (k : Fin 16) : kcell (c, nRecv k) = recvCell c k :=
  Prod.ext rfl ((dif_pos (by have := k.isLt; show 16 + k.val < 33; omega)).trans
    (congrArg SemLoc.dma (Fin.ext (by show 3 + (16 + k.val) = 19 + k.val; omega))))
theorem csem_loc : csem 32 = .dma locS := by
  unfold csem; rw [dif_pos (show (32 : Fin 34).val < 33 by decide)]; rfl
theorem csem_bar : csem 33 = .reg barS := by
  unfold csem; rw [dif_neg (show ¬ (33 : Fin 34).val < 33 by decide)]
theorem kcell_loc (c : Dev nD) : kcell (c, nLoc) = locCell c := Prod.ext rfl csem_loc
theorem kcell_bar (c : Dev nD) : kcell (c, nBar) = barCell c := Prod.ext rfl csem_bar

/-- The invariant of every cell, under the names `K`, and that every cell is at round 0. -/
def records (K : Dev nD × Fin 34 → ℕ) : sProp 𝕄 :=
  iprop((bigSep Finset.univ fun cn : Dev nD × Fin 34 => cellInv EX (xRd m ρ) (K cn) (kcell cn))
    ∗ bigSep Finset.univ fun cn : Dev nD × Fin 34 => reached EX (kcell cn) 0)

instance records_persistent (K : Dev nD × Fin 34 → ℕ) : BI.Persistent (records m ρ K) := by unfold records; infer_instance

variable (K : Dev nD × Fin 34 → ℕ)

theorem inv_at (cn : Dev nD × Fin 34) : records m ρ K ⊢ cellInv EX (xRd m ρ) (K cn) (kcell cn) := by
  unfold records; exact sep_elim_left.trans (bigSep_elim (Φ := fun cn : Dev nD × Fin 34 => (cellInv EX (xRd m ρ) (K cn) (kcell cn) : sProp 𝕄)) (Finset.mem_univ cn))
theorem reached_at (cn : Dev nD × Fin 34) : records m ρ K ⊢ reached EX (kcell cn) 0 := by
  unfold records; exact sep_elim_right.trans (bigSep_elim (Φ := fun cn : Dev nD × Fin 34 => (reached EX (kcell cn) 0 : sProp 𝕄)) (Finset.mem_univ cn))

theorem inv_send (c : Dev nD) (k : Fin 16) : records m ρ K ⊢ cellInv EX (xRd m ρ) (K (c, nSend k)) (sendCell c k) := by
  rw [← kcell_send]; exact inv_at m ρ K _
theorem inv_recv (c : Dev nD) (k : Fin 16) : records m ρ K ⊢ cellInv EX (xRd m ρ) (K (c, nRecv k)) (recvCell c k) := by
  rw [← kcell_recv]; exact inv_at m ρ K _
theorem inv_loc (c : Dev nD) : records m ρ K ⊢ cellInv EX (xRd m ρ) (K (c, nLoc)) (locCell c) := by
  rw [← kcell_loc]; exact inv_at m ρ K _
theorem inv_bar (c : Dev nD) : records m ρ K ⊢ cellInv EX (xRd m ρ) (K (c, nBar)) (barCell c) := by
  rw [← kcell_bar]; exact inv_at m ρ K _
theorem reached_send (c : Dev nD) (k : Fin 16) : records m ρ K ⊢ reached EX (sendCell c k) 0 := by
  rw [← kcell_send]; exact reached_at m ρ K _
theorem reached_recv (c : Dev nD) (k : Fin 16) : records m ρ K ⊢ reached EX (recvCell c k) 0 := by
  rw [← kcell_recv]; exact reached_at m ρ K _
theorem reached_loc (c : Dev nD) : records m ρ K ⊢ reached EX (locCell c) 0 := by
  rw [← kcell_loc]; exact reached_at m ρ K _
theorem reached_bar (c : Dev nD) : records m ρ K ⊢ reached EX (barCell c) 0 := by
  rw [← kcell_bar]; exact reached_at m ρ K _

/-! ## The offsets done -/

/-- The offsets from 1 up to, not including, `j`. -/
def upto (j : ℕ) : Finset (Fin 16) := Finset.univ.filter fun k => 1 ≤ k.val ∧ k.val < j

theorem upto_succ (k : Fin 16) (hk : k ≠ 0) : upto (k.val + 1) = insert k (upto k.val) := by
  have h0 : k.val ≠ 0 := fun h => hk (Fin.ext h)
  ext x; simp only [upto, Finset.mem_filter, Finset.mem_univ, true_and, Finset.mem_insert, Fin.ext_iff]; omega
theorem not_mem_upto (k : Fin 16) : k ∉ upto k.val := by
  simp only [upto, Finset.mem_filter, Finset.mem_univ, true_and]; omega
theorem upto_one : upto 1 = ∅ := by decide
theorem upto_16 : upto 16 = Finset.univ.erase 0 := by decide

omit [FloatOps F] in
theorem from_take (k : Fin 16) (Φ : Fin 16 → sProp 𝕄) : bigSep (from_ k.val) Φ = iprop(Φ k ∗ bigSep (from_ (k.val + 1)) Φ) := by
  rw [from_succ, bigSep_insert (not_mem_from_succ k)]; rfl
omit [FloatOps F] in
theorem upto_put (k : Fin 16) (hk : k ≠ 0) (Φ : Fin 16 → sProp 𝕄) : bigSep (upto (k.val + 1)) Φ = iprop(Φ k ∗ bigSep (upto k.val) Φ) := by
  rw [upto_succ k hk, bigSep_insert (not_mem_upto k)]; rfl

/-- What a device owes, whatever it has waited on. -/
def ow (c : Dev nD) (O : CellTallies nD τ sig Unit) : sProp 𝕄 := iprop(∃ W, owes (c : Thread nD τ) O W)

theorem back_sub (c k : Fin 16) : c + k - k = c := by revert c k; decide
theorem back_neg (c k : Fin 16) : c + k + -k = c := by revert c k; decide
theorem neg_ne (k : Fin 16) (h : k ≠ 0) : -k ≠ 0 := by revert k; decide

/-! ## The barrier -/

/-- Before the unit of offset `j`: the tokens of the units to come and the slots they hand over. -/
def Sg (c : Dev nD) (j : ℕ) : sProp 𝕄 :=
  iprop(ow c (owesBoth c j) ∗ (bigSep (from_ j) fun k => dutyTok EX (barCell (c + k : Fin 16)) 0 (-k))
    ∗ (bigSep (from_ j) fun k => iprop(∃ f, slotPts (F := F) c (c + k) f)))

theorem sig_step (c n : Dev nD) (k : Fin 16) (hk : k ≠ 0) (hn : n = (c + k : Fin 16)) {k' : ℕ} (hk' : k' = 1)
    {α : Type} {Q : α → sProp 𝕄} {p : PUnit → Prog (TpuEff nD τ sig (Elt F) Λ₀ .tc) α} :
    iprop(records m ρ K ∗ Sg c k.val)
      ⊢ iprop((Sg c (k.val + 1) -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (Dev.tc n : Thread nD τ) barS k') p) Q) := by
  subst hn hk'
  unfold Sg ow
  rw [from_take k, from_take k]
  iintro ⟨#HR, ⟨%W, HO⟩, ⟨Htok, Htoks⟩, ⟨Hslot, Hslots⟩⟩ Hk
  iapply (Rounds.wp_signal 𝒱₀ EX (xRd m ρ) (c : Thread nD τ) none (dst := ((c + k : Fin 16) : Thread nD τ)) (κ := K ((c + k : Fin 16), nBar))
      (d := -k) (by rw [duties_bar]; exact Finset.mem_erase.mpr ⟨neg_ne k hk, Finset.mem_univ _⟩) rfl () (owesBoth c (k.val + 1)) (owesBoth_step c k))
    $$ [HO Htok Hslot]
  · isplitr; · iapply (inv_bar m ρ K); iexact HR
    isplitl [HO]; · iexact HO
    isplitl [Htok]; · iexact Htok
    isplitl [Hslot]
    · rw [payload_bar]; unfold barPay; rw [back_neg c k]; iexact Hslot
    · iapply (reached_bar m ρ K); iexact HR
  iintro HO
  iapply Hk
  isplitl [HO]; · iexists W; iexact HO
  isplitl [Htoks]; · iexact Htoks
  iexact Hslots

/-- Before the barrier wait, and after it: the slots of the other devices that this one fills. -/
def Bw (c : Dev nD) : sProp 𝕄 :=
  iprop(ow (F := F) c (owesCopies c 1) ∗ cred (tallyAt (barCell c) () 15) ∗ atPos EX (barCell c) 0 ∅ 0 ∗ levAts L lv)
def Ba (c : Dev nD) : sProp 𝕄 :=
  iprop(ow c (owesCopies c 1) ∗ semVal (barCell c) 0 ∗ (bigSep (from_ 1) fun k => iprop(∃ f, slotPts (F := F) (c + k : Fin 16) c f)))

theorem bar_step (c : Dev nD) {k' : ℕ} (hk' : k' = 15)
    {α : Type} {Q : α → sProp 𝕄} {p : PUnit → Prog (TpuEff nD τ sig (Elt F) Λ₀ .tc) α} :
    iprop(records m ρ K ∗ Bw c)
      ⊢ iprop((Ba c -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS k') p) Q) := by
  subst hk'
  unfold Bw Ba ow
  iintro ⟨#HR, ⟨%W, HO⟩, Hc, Hat, #Hlev⟩ Hk
  iapply (Rounds.wp_wait_rest_token 𝒱₀ EX (xRd m ρ) (c : Thread nD τ) none (κ := K (c, nBar))
      (wpE_semWait_eq 𝒱₀ (c : Thread nD τ) none Set.univ) (Set.mem_univ _) () (O := owesCopies c 1) (W := W) (R := 0) (m := 0) (T := ∅)
      (by rw [expect_bar])) $$ [Hc HO Hat]
  · isplitr; · iapply (inv_bar m ρ K); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  ihave #HI := (inv_bar m ρ K c) $$ HR
  imod (Rounds.cell_close EX (xRd m ρ) (Set.mem_univ (K (c, nBar))) (fun h => h) (R := 0 + 1) (duties_later m ρ (barCell c))) $$ [Hat] with Hz
  · isplitr; · iexact HI
    iexact Hat
  iapply Hk
  isplitl [HO]; · iexists _; iexact HO
  isplitl [Hz]; · iexact Hz
  rw [from_one]; unfold barPay; iexact Hp

/-! ## The copies -/

/-- The local copy: block `c` of the send buffer into slot `c` of the receive buffer. -/
theorem local_step (c : Dev nD) {off : Fin 2 → ℕ} (hoff : off = ![64 * c.val, 0])
    {inb inb' : ∀ a, off a + S64x256.size a ≤ S1024x256.size a} {s : DmaSem sig} (hs : s = locS)
    {h1 : ∀ a, (Rect.unit (s := S1024x256) off S64x256.size inb).stride a = 1} {h2 : ∀ a, (Rect.unit (s := S1024x256) off S64x256.size inb').stride a = 1}
    {hsrc : (sM.slice (Rect.unit (s := S1024x256) off S64x256.size inb) h1).view.WordExact}
    {hdst : (rM.slice (Rect.unit (s := S1024x256) off S64x256.size inb') h2).view.WordExact}
    {hsem : DmaTarget.Typed (nD := nD) (τ := τ) (p := .tc) .vmem (.dma s) (.here (rM.slice (Rect.unit (s := S1024x256) off S64x256.size inb') h2))}
    {α : Type} {Q : α → sProp 𝕄} {p : PUnit → Prog (TpuEff nD τ sig (Elt F) Λ₀ .tc) α} :
    iprop(records m ρ K ∗ sblkPts c c (sendAll m ρ c) ∗ (∃ f, slotPts c c f) ∗ dutyTok EX (locCell c) 0 0)
      ⊢ iprop((cred (tallyAt (locCell c) () N) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma (sM.slice (Rect.unit (s := S1024x256) off S64x256.size inb) h1)
              (.here (rM.slice (Rect.unit (s := S1024x256) off S64x256.size inb') h2)) (.dma s) hsrc hdst hsem) p) Q) := by
  subst hoff hs
  unfold slotPts sblkPts
  iintro ⟨#HR, Hs, ⟨%f, Hd⟩, Htok⟩ Hk
  iapply (Rounds.wp_copy_pointsTo 𝒱₀ EX (xRd m ρ) (c : Thread nD τ) none (src := blkOf sM c) (dst := blkOf rM c) (sem := .dma locS)
      (κ := K (c, nLoc)) (r := 0) (d := 0) (fs := sendAll m ρ c) (fd := f) (q := fullShare)
      (by rw [duties_loc]; exact Finset.mem_singleton_self _) () N rfl rfl (by
        rw [payload_loc]; unfold locPay slotPts sblkPts
        rw [blkOf_set_r, blkOf_set_s]
        exact sep_mono_left (Entails.of_eq (pointsTo_congr fun i hi => landed_eq m ρ c c f i hi)))) $$ [Hs Hd Htok]
  · isplitr; · iapply (inv_loc m ρ K); iexact HR
    isplitl [Hs]; · rw [blkOf_set_s]; iexact Hs
    isplitl [Hd]; · rw [blkOf_set_r]; iexact Hd
    isplitl [Htok]; · iexact Htok
    iapply (reached_loc m ρ K); iexact HR
  iexact Hk

/-- Before the copy of offset `j`: the tokens of the copies to come, the blocks they read, the slots they fill; and the
    credit of those started. -/
def Sd (c : Dev nD) (j : ℕ) : sProp 𝕄 :=
  iprop(ow c (owesCopies c j) ∗ (bigSep (from_ j) fun k => dutyTok EX (sendCell c k) 0 0)
    ∗ (bigSep (from_ j) fun k => dutyTok EX (recvCell (c + k : Fin 16) k) 0 0)
    ∗ (bigSep (from_ j) fun k => sblkPts c (c + k) (sendAll m ρ c))
    ∗ (bigSep (from_ j) fun k => iprop(∃ f, slotPts (F := F) (c + k : Fin 16) c f))
    ∗ (bigSep (upto j) fun k => cred (tallyAt (sendCell c k) () N)))

theorem send_step (c n : Dev nD) (k : Fin 16) (hk : k ≠ 0) (hn : n = (c + k : Fin 16))
    {off off' : Fin 2 → ℕ} (hoff : off = ![64 * (c + k : Fin 16).val, 0]) (hoff' : off' = ![64 * c.val, 0])
    {inb : ∀ a, off a + S64x256.size a ≤ S1024x256.size a} {inb' : ∀ a, off' a + S64x256.size a ≤ S1024x256.size a}
    {s s' : DmaSem sig} (hs : s = sendS k) (hs' : s' = recvS k)
    {h1 : ∀ a, (Rect.unit (s := S1024x256) off S64x256.size inb).stride a = 1} {h2 : ∀ a, (Rect.unit (s := S1024x256) off' S64x256.size inb').stride a = 1}
    {hsc : ((rM.slice (Rect.unit (s := S1024x256) off' S64x256.size inb') h2) : Memref sig (Dev.tc n : Thread nD τ).2.kind .vmem S64x256 .bf16).view.ref.isScScratch = false}
    {hsrc : (sM.slice (Rect.unit (s := S1024x256) off S64x256.size inb) h1).view.WordExact}
    {hdst : (rM.slice (Rect.unit (s := S1024x256) off' S64x256.size inb') h2).view.WordExact}
    {hsem : DmaTarget.Typed .vmem (.dma s') (.remote (Dev.tc n : Thread nD τ) (rM.slice (Rect.unit (s := S1024x256) off' S64x256.size inb') h2) (.dma s) hsc)}
    {α : Type} {Q : α → sProp 𝕄} {p : PUnit → Prog (TpuEff nD τ sig (Elt F) Λ₀ .tc) α} :
    iprop(records m ρ K ∗ Sd m ρ c k.val)
      ⊢ iprop((Sd m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma (sM.slice (Rect.unit (s := S1024x256) off S64x256.size inb) h1)
              (.remote (Dev.tc n : Thread nD τ) (rM.slice (Rect.unit (s := S1024x256) off' S64x256.size inb') h2) (.dma s) hsc) (.dma s') hsrc hdst hsem) p) Q) := by
  subst hn hoff hoff' hs hs'
  unfold Sd ow
  rw [from_take k, from_take k, from_take k, from_take k, upto_put k hk]
  iintro ⟨#HR, ⟨%W, HO⟩, ⟨Hts, Htss⟩, ⟨Htr, Htrs⟩, ⟨Hb, Hbs⟩, ⟨⟨%f, Hd⟩, Hds⟩, Hcs⟩ Hk
  unfold slotPts sblkPts
  iapply (Rounds.wp_send_pointsTo 𝒱₀ EX (xRd m ρ) (c : Thread nD τ) none (c' := ((c + k : Fin 16) : Thread nD τ))
      (src := blkOf sM (c + k)) (dst := blkOf rM c) (sS := .dma (sendS k)) (sem := .dma (recvS k))
      (κ₁ := K (c, nSend k)) (κ₂ := K ((c + k : Fin 16), nRecv k)) (r₁ := 0) (r₂ := 0) (d₁ := 0) (d₂ := 0)
      (fs := sendAll m ρ c) (fd := f) (q := fullShare)
      (by rw [duties_send m ρ c k hk]; exact Finset.mem_singleton_self _) (by rw [duties_recv m ρ _ k hk]; exact Finset.mem_singleton_self _)
      () () N rfl rfl rfl (owesCopies c (k.val + 1)) (owesCopies_step c k) (W := W)
      (by rw [payload_send]; unfold sendPay sblkPts; rw [blkOf_set_s])
      (by
        rw [payload_recv]; unfold recvPay slotPts
        rw [blkOf_set_r, back_sub c k]
        exact Entails.of_eq (pointsTo_congr fun i hi => landed_eq m ρ (c + k : Fin 16) c f i hi))) $$ [HO Hts Htr Hb Hd]
  · isplitr; · iapply (inv_send m ρ K); iexact HR
    isplitr; · iapply (inv_recv m ρ K); iexact HR
    isplitl [Hb]; · rw [blkOf_set_s]; iexact Hb
    isplitl [Hd]; · rw [blkOf_set_r]; iexact Hd
    isplitl [HO]; · iexact HO
    isplitl [Hts]; · iexact Hts
    isplitr; · iapply (reached_send m ρ K); iexact HR
    isplitl [Htr]; · iexact Htr
    iapply (reached_recv m ρ K); iexact HR
  iintro ⟨Hc, HO⟩
  iapply Hk
  isplitl [HO]; · iexists W; iexact HO
  isplitl [Htss]; · iexact Htss
  isplitl [Htrs]; · iexact Htrs
  isplitl [Hbs]; · iexact Hbs
  isplitl [Hds]; · iexact Hds
  isplitl [Hc]; · iexact Hc
  iexact Hcs

/-! ## The waits for the copies -/

/-- A wait for one transfer's credit, nothing owed: the cell's payload `P`, and the cell closed. -/
theorem wait_step (c : Dev nD) (sm s : DmaSem sig) (hs : s = sm) (κ : ℕ) (P : sProp 𝕄) (hE : (xRd (F := F) m ρ).expect ((c : Thread nD τ), .dma sm) 0 = N)
    (hP : bigSep ((xRd (F := F) m ρ).duties ((c : Thread nD τ), .dma sm) 0 \ ∅) (fun d => (xRd (F := F) m ρ).payload ((c : Thread nD τ), .dma sm) 0 d) = P)
    {src dst : Memref sig .tc .vmem S64x256 .bf16} {hsrc : src.view.WordExact} {hdst : dst.view.WordExact} (hN : dst.view.dmaCredit = N)
    {α : Type} {Q : α → sProp 𝕄} {p : PUnit → Prog (TpuEff nD τ sig (Elt F) Λ₀ .tc) α} :
    iprop(cellInv EX (xRd m ρ) κ ((c : Thread nD τ), .dma sm) ∗ ow (F := F) c 0 ∗ cred (tallyAt ((c : Thread nD τ), .dma sm) () N) ∗ atPos EX ((c : Thread nD τ), .dma sm) 0 ∅ 0)
      ⊢ iprop(((ow c 0 ∗ P ∗ semVal ((c : Thread nD τ), .dma sm) 0) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src dst hsrc hdst) p) Q) := by
  subst hs hP
  unfold ow
  iintro ⟨#HI, ⟨%W, HO⟩, Hc, Hat⟩ Hk
  iapply (Rounds.wp_wait_rest_token 𝒱₀ EX (xRd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hE, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close EX (xRd m ρ) (Set.mem_univ κ) (fun h => h) (R := 0 + 1) (duties_later m ρ _)) $$ [Hat] with Hz
  · isplitr; · iexact HI
    iexact Hat
  iapply Hk
  isplitl [HO]; · iexists _; iexact HO
  isplitl [Hpay]; · iexact Hpay
  iexact Hz

/-- Before the receive wait of offset `j`. -/
def Rv (c : Dev nD) (j : ℕ) : sProp 𝕄 :=
  iprop(ow (F := F) c 0 ∗ (bigSep (from_ j) fun k => cred (tallyAt (recvCell c k) () N))
    ∗ (bigSep (from_ j) fun k => atPos EX (recvCell c k) 0 ∅ 0)
    ∗ (bigSep (upto j) fun k => recvPay m ρ c k) ∗ (bigSep (upto j) fun k => semVal (recvCell c k) 0))

theorem recv_step (c : Dev nD) (k : Fin 16) (hk : k ≠ 0) {s : DmaSem sig} (hs : s = recvS k)
    {src dst : Memref sig .tc .vmem S64x256 .bf16} {hsrc : src.view.WordExact} {hdst : dst.view.WordExact} (hN : dst.view.dmaCredit = N)
    {α : Type} {Q : α → sProp 𝕄} {p : PUnit → Prog (TpuEff nD τ sig (Elt F) Λ₀ .tc) α} :
    iprop(records m ρ K ∗ Rv m ρ c k.val)
      ⊢ iprop((Rv m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src dst hsrc hdst) p) Q) := by
  unfold Rv
  rw [from_take k, from_take k, upto_put k hk, upto_put k hk]
  iintro ⟨#HR, HO, ⟨Hc, Hcs⟩, ⟨Hat, Hats⟩, Hps, Hzs⟩ Hk
  iapply (wait_step m ρ c (recvS k) s hs (K (c, nRecv k)) (recvPay m ρ c k) (expect_recv m ρ c k hk) (rest_recv m ρ c k hk) hN) $$ [HO Hc Hat]
  · isplitr; · iapply (inv_recv m ρ K); iexact HR
    isplitl [HO]; · iexact HO
    isplitl [Hc] <;> iassumption
  iintro ⟨HO, Hp, Hz⟩
  iapply Hk
  isplitl [HO]; · iexact HO
  isplitl [Hcs]; · iexact Hcs
  isplitl [Hats]; · iexact Hats
  isplitl [Hp Hps]
  · isplitl [Hp] <;> iassumption
  isplitl [Hz] <;> iassumption

/-- Before the send wait of offset `j`. -/
def Sw (c : Dev nD) (j : ℕ) : sProp 𝕄 :=
  iprop(ow (F := F) c 0 ∗ (bigSep (from_ j) fun k => cred (tallyAt (sendCell c k) () N))
    ∗ (bigSep (from_ j) fun k => atPos EX (sendCell c k) 0 ∅ 0)
    ∗ (bigSep (upto j) fun k => sendPay m ρ c k) ∗ (bigSep (upto j) fun k => semVal (sendCell c k) 0))

theorem sendw_step (c : Dev nD) (k : Fin 16) (hk : k ≠ 0) {s : DmaSem sig} (hs : s = sendS k)
    {src dst : Memref sig .tc .vmem S64x256 .bf16} {hsrc : src.view.WordExact} {hdst : dst.view.WordExact} (hN : dst.view.dmaCredit = N)
    {α : Type} {Q : α → sProp 𝕄} {p : PUnit → Prog (TpuEff nD τ sig (Elt F) Λ₀ .tc) α} :
    iprop(records m ρ K ∗ Sw m ρ c k.val)
      ⊢ iprop((Sw m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src dst hsrc hdst) p) Q) := by
  unfold Sw
  rw [from_take k, from_take k, upto_put k hk, upto_put k hk]
  iintro ⟨#HR, HO, ⟨Hc, Hcs⟩, ⟨Hat, Hats⟩, Hps, Hzs⟩ Hk
  iapply (wait_step m ρ c (sendS k) s hs (K (c, nSend k)) (sendPay m ρ c k) (expect_send m ρ c k hk) (rest_send m ρ c k hk) hN) $$ [HO Hc Hat]
  · isplitr; · iapply (inv_send m ρ K); iexact HR
    isplitl [HO]; · iexact HO
    isplitl [Hc] <;> iassumption
  iintro ⟨HO, Hp, Hz⟩
  iapply Hk
  isplitl [HO]; · iexact HO
  isplitl [Hcs]; · iexact Hcs
  isplitl [Hats]; · iexact Hats
  isplitl [Hp Hps]
  · isplitl [Hp] <;> iassumption
  isplitl [Hz] <;> iassumption

theorem locw_step (c : Dev nD) {s : DmaSem sig} (hs : s = locS)
    {src dst : Memref sig .tc .vmem S64x256 .bf16} {hsrc : src.view.WordExact} {hdst : dst.view.WordExact} (hN : dst.view.dmaCredit = N)
    {α : Type} {Q : α → sProp 𝕄} {p : PUnit → Prog (TpuEff nD τ sig (Elt F) Λ₀ .tc) α} :
    iprop(records m ρ K ∗ ow (F := F) c 0 ∗ cred (tallyAt (locCell c) () N) ∗ atPos EX (locCell c) 0 ∅ 0)
      ⊢ iprop(((ow c 0 ∗ locPay m ρ c ∗ semVal (locCell c) 0) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src dst hsrc hdst) p) Q) := by
  iintro ⟨#HR, HO, Hc, Hat⟩ Hk
  iapply (wait_step m ρ c locS s hs (K (c, nLoc)) (locPay m ρ c) (expect_loc m ρ c) (rest_loc m ρ c) hN) $$ [HO Hc Hat]
  · isplitr; · iapply (inv_loc m ρ K); iexact HR
    isplitl [HO]; · iexact HO
    isplitl [Hc] <;> iassumption
  iexact Hk

end Cert.Exchange

end
-- ==== Proof.Copies.lean ====
/-
# # The units of the barrier's middle part, and the copies to the other devices, part by part
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 34 → ℕ)

/-- Where the copy of offset `k` reads. -/
theorem off2_at (c : Dev nD) (k : Fin 16) (r : Fin 15) (h : k.val = r.val + 1) :
    k0_off2 c (BitVec.ofNat 32 (1 + r.val)) = ![64 * (c + k : Fin 16).val, 0] := by
  rw [k0_off2_eq c r]
  have e : (c + k : Fin 16).val = (c.val + r.val + 1) % 16 := by
    show (c.val + k.val) % 16 = _; rw [h, Nat.add_assoc]
  rw [e]

/-- A receive wait, and a send wait, on views that are blocks of the two buffers. -/
theorem recv_at (c : Dev nD) (k : Fin 16) (hk : k ≠ 0) {s : DmaSem sig} (hs : s = recvS k)
    {src : Memref sig .tc .vmem S64x256 .bf16} {off : Fin 2 → ℕ} {inb : ∀ a, off a + S64x256.size a ≤ S1024x256.size a}
    {h1 : ∀ a, (Rect.unit (s := S1024x256) off S64x256.size inb).stride a = 1} {hsrc : src.view.WordExact}
    {hdst : (rM.slice (Rect.unit (s := S1024x256) off S64x256.size inb) h1).view.WordExact}
    {α : Type} {Q : α → sProp 𝕄} {p : PUnit → Prog (TpuEff nD τ sig (Elt F) Λ₀ .tc) α} :
    iprop(records m ρ K ∗ Rv m ρ c k.val)
      ⊢ iprop((Rv m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 s src (rM.slice (Rect.unit (s := S1024x256) off S64x256.size inb) h1) hsrc hdst) p) Q) :=
  recv_step m ρ K c k hk hs (src := src) (dst := rM.slice (Rect.unit (s := S1024x256) off S64x256.size inb) h1) (hsrc := hsrc) (hdst := hdst) rfl
theorem sendw_at (c : Dev nD) (k : Fin 16) (hk : k ≠ 0) {s : DmaSem sig} (hs : s = sendS k)
    {src : Memref sig .tc .vmem S64x256 .bf16} {off : Fin 2 → ℕ} {inb : ∀ a, off a + S64x256.size a ≤ S1024x256.size a}
    {h1 : ∀ a, (Rect.unit (s := S1024x256) off S64x256.size inb).stride a = 1} {hsrc : src.view.WordExact}
    {hdst : (sM.slice (Rect.unit (s := S1024x256) off S64x256.size inb) h1).view.WordExact}
    {α : Type} {Q : α → sProp 𝕄} {p : PUnit → Prog (TpuEff nD τ sig (Elt F) Λ₀ .tc) α} :
    iprop(records m ρ K ∗ Sw m ρ c k.val)
      ⊢ iprop((Sw m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 s src (sM.slice (Rect.unit (s := S1024x256) off S64x256.size inb) h1) hsrc hdst) p) Q) :=
  sendw_step m ρ K c k hk hs (src := src) (dst := sM.slice (Rect.unit (s := S1024x256) off S64x256.size inb) h1) (hsrc := hsrc) (hdst := hdst) rfl

/-- The units of offsets 6 to 11. -/
theorem run_part2 (c : Dev nD) (v2 v24 w : BitVec 32) {Q : (Σ' (v48 : BitVec 32), BitVec 32) → sProp 𝕄} :
    iprop(records m ρ K ∗ Sg c 6)
      ⊢ iprop((∀ r, Sg c 12 -∗ Q r) -∗ wp frame (wpE (defs₀ (F := F)) 𝒱₀ (c : Thread nD τ) none) Set.univ
        (k0_part2 xM (Memref.isWhole_whole _) dM (Memref.isWhole_whole _) oM (Memref.isWhole_whole _) sM (Memref.isWhole_whole _) rM (Memref.isWhole_whole _) cc0_scratch2 cc0_scratch3 cc0_scratch4 c v2 (SemArray.scalar (sig.barrier 0 rfl)) v24 w) Q) := by
  rw [k0_part2_eq_skeleton]
  unfold k0_part2_skel
  simp only [semSignalWord, semWaitWord, Prog.lift, Prog.bind_op, Prog.bind_ret, Prog.pure_eq_ret, wp_deviceId]
  iintro ⟨#HR, Hs⟩ Hk
  iapply (sig_step m ρ K c (⟨k0_dev6 c, k0_dev6_lt c⟩ : Dev nD) 6 (by decide) (Fin.ext (k0_dev6_eq c)) (by decide)) $$ [Hs]
  · isplitr; · iexact HR
    iexact Hs
  iintro Hs
  iapply (sig_step m ρ K c (⟨k0_dev7 c, k0_dev7_lt c⟩ : Dev nD) 7 (by decide) (Fin.ext (k0_dev7_eq c)) (by decide)) $$ [Hs]
  · isplitr; · iexact HR
    iexact Hs
  iintro Hs
  iapply (sig_step m ρ K c (⟨k0_dev8 c, k0_dev8_lt c⟩ : Dev nD) 8 (by decide) (Fin.ext (k0_dev8_eq c)) (by decide)) $$ [Hs]
  · isplitr; · iexact HR
    iexact Hs
  iintro Hs
  iapply (sig_step m ρ K c (⟨k0_dev9 c, k0_dev9_lt c⟩ : Dev nD) 9 (by decide) (Fin.ext (k0_dev9_eq c)) (by decide)) $$ [Hs]
  · isplitr; · iexact HR
    iexact Hs
  iintro Hs
  iapply (sig_step m ρ K c (⟨k0_dev10 c, k0_dev10_lt c⟩ : Dev nD) 10 (by decide) (Fin.ext (k0_dev10_eq c)) (by decide)) $$ [Hs]
  · isplitr; · iexact HR
    iexact Hs
  iintro Hs
  iapply (sig_step m ρ K c (⟨k0_dev11 c, k0_dev11_lt c⟩ : Dev nD) 11 (by decide) (Fin.ext (k0_dev11_eq c)) (by decide)) $$ [Hs]
  · isplitr; · iexact HR
    iexact Hs
  iintro Hs
  rw [wp_ret]; imodintro
  iapply Hk; iexact Hs

/-- The copies of offsets 1 and 2. -/
theorem run_part6 (c : Dev nD) (v2 : BitVec 32) {Q : PUnit → sProp 𝕄} :
    iprop(records m ρ K ∗ Sd m ρ c 1)
      ⊢ iprop((∀ r, Sd m ρ c 3 -∗ Q r) -∗ wp frame (wpE (defs₀ (F := F)) 𝒱₀ (c : Thread nD τ) none) Set.univ
        (k0_part6 xM (Memref.isWhole_whole _) dM (Memref.isWhole_whole _) oM (Memref.isWhole_whole _) sM (Memref.isWhole_whole _) rM (Memref.isWhole_whole _) cc0_scratch2 cc0_scratch3 cc0_scratch4 c v2) Q) := by
  rw [k0_part6_eq_skeleton]
  unfold k0_part6_skel
  simp only [semSignalWord, semWaitWord, Prog.lift, Prog.bind_op, Prog.bind_ret, Prog.pure_eq_ret, wp_deviceId]
  iintro ⟨#HR, Hs⟩ Hk
  iapply (send_step m ρ K c (⟨k0_dev16 c, k0_dev16_lt c⟩ : Dev nD) 1 (by decide) (Fin.ext (k0_dev16_eq c)) (off2_at c 1 0 rfl) (k0_off1_eq c) rfl rfl) $$ [Hs]
  · isplitr; · iexact HR
    iexact Hs
  iintro Hs
  iapply (send_step m ρ K c (⟨k0_dev17 c, k0_dev17_lt c⟩ : Dev nD) 2 (by decide) (Fin.ext (k0_dev17_eq c)) (off2_at c 2 1 rfl) (k0_off1_eq c) rfl rfl) $$ [Hs]
  · isplitr; · iexact HR
    iexact Hs
  iintro Hs
  rw [wp_ret]; imodintro
  iapply Hk; iexact Hs

/-- The copies of offsets 3 to 5. -/
theorem run_part7 (c : Dev nD) (v2 : BitVec 32) {Q : (Σ' (v229 : BitVec 32), BitVec 32) → sProp 𝕄} :
    iprop(records m ρ K ∗ Sd m ρ c 3)
      ⊢ iprop((∀ r, Sd m ρ c 6 -∗ Q r) -∗ wp frame (wpE (defs₀ (F := F)) 𝒱₀ (c : Thread nD τ) none) Set.univ
        (k0_part7 xM (Memref.isWhole_whole _) dM (Memref.isWhole_whole _) oM (Memref.isWhole_whole _) sM (Memref.isWhole_whole _) rM (Memref.isWhole_whole _) cc0_scratch2 cc0_scratch3 cc0_scratch4 c v2) Q) := by
  rw [k0_part7_eq_skeleton]
  unfold k0_part7_skel
  simp only [semSignalWord, semWaitWord, Prog.lift, Prog.bind_op, Prog.bind_ret, Prog.pure_eq_ret, wp_deviceId]
  iintro ⟨#HR, Hs⟩ Hk
  iapply (send_step m ρ K c (⟨k0_dev18 c, k0_dev18_lt c⟩ : Dev nD) 3 (by decide) (Fin.ext (k0_dev18_eq c)) (off2_at c 3 2 rfl) (k0_off1_eq c) rfl rfl) $$ [Hs]
  · isplitr; · iexact HR
    iexact Hs
  iintro Hs
  iapply (send_step m ρ K c (⟨k0_dev19 c, k0_dev19_lt c⟩ : Dev nD) 4 (by decide) (Fin.ext (k0_dev19_eq c)) (off2_at c 4 3 rfl) (k0_off1_eq c) rfl rfl) $$ [Hs]
  · isplitr; · iexact HR
    iexact Hs
  iintro Hs
  iapply (send_step m ρ K c (⟨k0_dev20 c, k0_dev20_lt c⟩ : Dev nD) 5 (by decide) (Fin.ext (k0_dev20_eq c)) (off2_at c 5 4 rfl) (k0_off1_eq c) rfl rfl) $$ [Hs]
  · isplitr; · iexact HR
    iexact Hs
  iintro Hs
  rw [wp_ret]; imodintro
  iapply Hk; iexact Hs

/-- The copies of offsets 6 and 7. -/
theorem run_part8 (c : Dev nD) (v2 v229 w : BitVec 32) {Q : PUnit → sProp 𝕄} :
    iprop(records m ρ K ∗ Sd m ρ c 6)
      ⊢ iprop((∀ r, Sd m ρ c 8 -∗ Q r) -∗ wp frame (wpE (defs₀ (F := F)) 𝒱₀ (c : Thread nD τ) none) Set.univ
        (k0_part8 xM (Memref.isWhole_whole _) dM (Memref.isWhole_whole _) oM (Memref.isWhole_whole _) sM (Memref.isWhole_whole _) rM (Memref.isWhole_whole _) cc0_scratch2 cc0_scratch3 cc0_scratch4 c v2 v229 w) Q) := by
  rw [k0_part8_eq_skeleton]
  unfold k0_part8_skel
  simp only [semSignalWord, semWaitWord, Prog.lift, Prog.bind_op, Prog.bind_ret, Prog.pure_eq_ret, wp_deviceId]
  iintro ⟨#HR, Hs⟩ Hk
  iapply (send_step m ρ K c (⟨k0_dev21 c, k0_dev21_lt c⟩ : Dev nD) 6 (by decide) (Fin.ext (k0_dev21_eq c)) (off2_at c 6 5 rfl) (k0_off1_eq c) rfl rfl) $$ [Hs]
  · isplitr; · iexact HR
    iexact Hs
  iintro Hs
  iapply (send_step m ρ K c (⟨k0_dev22 c, k0_dev22_lt c⟩ : Dev nD) 7 (by decide) (Fin.ext (k0_dev22_eq c)) (off2_at c 7 6 rfl) (k0_off1_eq c) rfl rfl) $$ [Hs]
  · isplitr; · iexact HR
    iexact Hs
  iintro Hs
  rw [wp_ret]; imodintro
  iapply Hk; iexact Hs

/-- The copies of offsets 8 to 10. -/
theorem run_part9 (c : Dev nD) (v2 : BitVec 32) {Q : BitVec 32 → sProp 𝕄} :
    iprop(records m ρ K ∗ Sd m ρ c 8)
      ⊢ iprop((∀ r, Sd m ρ c 11 -∗ Q r) -∗ wp frame (wpE (defs₀ (F := F)) 𝒱₀ (c : Thread nD τ) none) Set.univ
        (k0_part9 xM (Memref.isWhole_whole _) dM (Memref.isWhole_whole _) oM (Memref.isWhole_whole _) sM (Memref.isWhole_whole _) rM (Memref.isWhole_whole _) cc0_scratch2 cc0_scratch3 cc0_scratch4 c v2) Q) := by
  rw [k0_part9_eq_skeleton]
  unfold k0_part9_skel
  simp only [semSignalWord, semWaitWord, Prog.lift, Prog.bind_op, Prog.bind_ret, Prog.pure_eq_ret, wp_deviceId]
  iintro ⟨#HR, Hs⟩ Hk
  iapply (send_step m ρ K c (⟨k0_dev23 c, k0_dev23_lt c⟩ : Dev nD) 8 (by decide) (Fin.ext (k0_dev23_eq c)) (off2_at c 8 7 rfl) (k0_off1_eq c) rfl rfl) $$ [Hs]
  · isplitr; · iexact HR
    iexact Hs
  iintro Hs
  iapply (send_step m ρ K c (⟨k0_dev24 c, k0_dev24_lt c⟩ : Dev nD) 9 (by decide) (Fin.ext (k0_dev24_eq c)) (off2_at c 9 8 rfl) (k0_off1_eq c) rfl rfl) $$ [Hs]
  · isplitr; · iexact HR
    iexact Hs
  iintro Hs
  iapply (send_step m ρ K c (⟨k0_dev25 c, k0_dev25_lt c⟩ : Dev nD) 10 (by decide) (Fin.ext (k0_dev25_eq c)) (off2_at c 10 9 rfl) (k0_off1_eq c) rfl rfl) $$ [Hs]
  · isplitr; · iexact HR
    iexact Hs
  iintro Hs
  rw [wp_ret]; imodintro
  iapply Hk; iexact Hs

/-- The copies of offsets 11 to 13. -/
theorem run_part10 (c : Dev nD) (v2 v289 : BitVec 32) {Q : BitVec 32 → sProp 𝕄} :
    iprop(records m ρ K ∗ Sd m ρ c 11)
      ⊢ iprop((∀ r, Sd m ρ c 14 -∗ Q r) -∗ wp frame (wpE (defs₀ (F := F)) 𝒱₀ (c : Thread nD τ) none) Set.univ
        (k0_part10 xM (Memref.isWhole_whole _) dM (Memref.isWhole_whole _) oM (Memref.isWhole_whole _) sM (Memref.isWhole_whole _) rM (Memref.isWhole_whole _) cc0_scratch2 cc0_scratch3 cc0_scratch4 c v2 v289) Q) := by
  rw [k0_part10_eq_skeleton]
  unfold k0_part10_skel
  simp only [semSignalWord, semWaitWord, Prog.lift, Prog.bind_op, Prog.bind_ret, Prog.pure_eq_ret, wp_deviceId]
  iintro ⟨#HR, Hs⟩ Hk
  iapply (send_step m ρ K c (⟨k0_dev26 c, k0_dev26_lt c⟩ : Dev nD) 11 (by decide) (Fin.ext (k0_dev26_eq c)) (off2_at c 11 10 rfl) (k0_off1_eq c) rfl rfl) $$ [Hs]
  · isplitr; · iexact HR
    iexact Hs
  iintro Hs
  iapply (send_step m ρ K c (⟨k0_dev27 c, k0_dev27_lt c⟩ : Dev nD) 12 (by decide) (Fin.ext (k0_dev27_eq c)) (off2_at c 12 11 rfl) (k0_off1_eq c) rfl rfl) $$ [Hs]
  · isplitr; · iexact HR
    iexact Hs
  iintro Hs
  iapply (send_step m ρ K c (⟨k0_dev28 c, k0_dev28_lt c⟩ : Dev nD) 13 (by decide) (Fin.ext (k0_dev28_eq c)) (off2_at c 13 12 rfl) (k0_off1_eq c) rfl rfl) $$ [Hs]
  · isplitr; · iexact HR
    iexact Hs
  iintro Hs
  rw [wp_ret]; imodintro
  iapply Hk; iexact Hs

/-- The copies of offsets 14 and 15. -/
theorem run_part11 (c : Dev nD) (v2 w : BitVec 32) {Q : (Σ' (v353 : BitVec 32), BitVec 32) → sProp 𝕄} :
    iprop(records m ρ K ∗ Sd m ρ c 14)
      ⊢ iprop((∀ r, Sd m ρ c 16 -∗ Q r) -∗ wp frame (wpE (defs₀ (F := F)) 𝒱₀ (c : Thread nD τ) none) Set.univ
        (k0_part11 xM (Memref.isWhole_whole _) dM (Memref.isWhole_whole _) oM (Memref.isWhole_whole _) sM (Memref.isWhole_whole _) rM (Memref.isWhole_whole _) cc0_scratch2 cc0_scratch3 cc0_scratch4 c v2 w) Q) := by
  rw [k0_part11_eq_skeleton]
  unfold k0_part11_skel
  simp only [semSignalWord, semWaitWord, Prog.lift, Prog.bind_op, Prog.bind_ret, Prog.pure_eq_ret, wp_deviceId]
  iintro ⟨#HR, Hs⟩ Hk
  iapply (send_step m ρ K c (⟨k0_dev29 c, k0_dev29_lt c⟩ : Dev nD) 14 (by decide) (Fin.ext (k0_dev29_eq c)) (off2_at c 14 13 rfl) (k0_off1_eq c) rfl rfl) $$ [Hs]
  · isplitr; · iexact HR
    iexact Hs
  iintro Hs
  iapply (send_step m ρ K c (⟨k0_dev30 c, k0_dev30_lt c⟩ : Dev nD) 15 (by decide) (Fin.ext (k0_dev30_eq c)) (off2_at c 15 14 rfl) (k0_off1_eq c) rfl rfl) $$ [Hs]
  · isplitr; · iexact HR
    iexact Hs
  iintro Hs
  rw [wp_ret]; imodintro
  iapply Hk; iexact Hs

end Cert.Exchange

end
-- ==== Proof.Waits.lean ====
/-
# # The waits for the copies, part by part
-/
module

public import proofs.«01_k».proof.Proof.Copies

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 34 → ℕ)
/-- The receives of offsets 1 to 3. -/
theorem run_part12 (c : Dev nD) (v2 v353 w : BitVec 32) {Q : BitVec 32 → sProp 𝕄} :
    iprop(records m ρ K ∗ Rv m ρ c 1)
      ⊢ iprop((∀ r, Rv m ρ c 4 -∗ Q r) -∗ wp frame (wpE (defs₀ (F := F)) 𝒱₀ (c : Thread nD τ) none) Set.univ
        (k0_part12 xM (Memref.isWhole_whole _) dM (Memref.isWhole_whole _) oM (Memref.isWhole_whole _) sM (Memref.isWhole_whole _) rM (Memref.isWhole_whole _) cc0_scratch2 cc0_scratch3 cc0_scratch4 c v2 v353 w) Q) := by
  rw [k0_part12_eq_skeleton]
  unfold k0_part12_skel
  simp only [semSignalWord, semWaitWord, Prog.lift, Prog.bind_op, Prog.bind_ret, Prog.pure_eq_ret, wp_deviceId]
  iintro ⟨#HR, Hs⟩ Hk
  iapply (recv_at m ρ K c 1 (by decide) rfl) $$ [Hs]
  · isplitr; · iexact HR
    iexact Hs
  iintro Hs
  iapply (recv_at m ρ K c 2 (by decide) rfl) $$ [Hs]
  · isplitr; · iexact HR
    iexact Hs
  iintro Hs
  iapply (recv_at m ρ K c 3 (by decide) rfl) $$ [Hs]
  · isplitr; · iexact HR
    iexact Hs
  iintro Hs
  rw [wp_ret]; imodintro
  iapply Hk; iexact Hs

/-- The receives of offsets 4 and 5. -/
theorem run_part13 (c : Dev nD) (v2 v383 : BitVec 32) {Q : PUnit → sProp 𝕄} :
    iprop(records m ρ K ∗ Rv m ρ c 4)
      ⊢ iprop((∀ r, Rv m ρ c 6 -∗ Q r) -∗ wp frame (wpE (defs₀ (F := F)) 𝒱₀ (c : Thread nD τ) none) Set.univ
        (k0_part13 xM (Memref.isWhole_whole _) dM (Memref.isWhole_whole _) oM (Memref.isWhole_whole _) sM (Memref.isWhole_whole _) rM (Memref.isWhole_whole _) cc0_scratch2 cc0_scratch3 cc0_scratch4 c v2 v383) Q) := by
  rw [k0_part13_eq_skeleton]
  unfold k0_part13_skel
  simp only [semSignalWord, semWaitWord, Prog.lift, Prog.bind_op, Prog.bind_ret, Prog.pure_eq_ret, wp_deviceId]
  iintro ⟨#HR, Hs⟩ Hk
  iapply (recv_at m ρ K c 4 (by decide) rfl) $$ [Hs]
  · isplitr; · iexact HR
    iexact Hs
  iintro Hs
  iapply (recv_at m ρ K c 5 (by decide) rfl) $$ [Hs]
  · isplitr; · iexact HR
    iexact Hs
  iintro Hs
  rw [wp_ret]; imodintro
  iapply Hk; iexact Hs

/-- The receives of offsets 6 to 8. -/
theorem run_part14 (c : Dev nD) (v2 : BitVec 32) {Q : BitVec 32 → sProp 𝕄} :
    iprop(records m ρ K ∗ Rv m ρ c 6)
      ⊢ iprop((∀ r, Rv m ρ c 9 -∗ Q r) -∗ wp frame (wpE (defs₀ (F := F)) 𝒱₀ (c : Thread nD τ) none) Set.univ
        (k0_part14 xM (Memref.isWhole_whole _) dM (Memref.isWhole_whole _) oM (Memref.isWhole_whole _) sM (Memref.isWhole_whole _) rM (Memref.isWhole_whole _) cc0_scratch2 cc0_scratch3 cc0_scratch4 c v2) Q) := by
  rw [k0_part14_eq_skeleton]
  unfold k0_part14_skel
  simp only [semSignalWord, semWaitWord, Prog.lift, Prog.bind_op, Prog.bind_ret, Prog.pure_eq_ret, wp_deviceId]
  iintro ⟨#HR, Hs⟩ Hk
  iapply (recv_at m ρ K c 6 (by decide) rfl) $$ [Hs]
  · isplitr; · iexact HR
    iexact Hs
  iintro Hs
  iapply (recv_at m ρ K c 7 (by decide) rfl) $$ [Hs]
  · isplitr; · iexact HR
    iexact Hs
  iintro Hs
  iapply (recv_at m ρ K c 8 (by decide) rfl) $$ [Hs]
  · isplitr; · iexact HR
    iexact Hs
  iintro Hs
  rw [wp_ret]; imodintro
  iapply Hk; iexact Hs

/-- The receives of offsets 9 to 11. -/
theorem run_part15 (c : Dev nD) (v2 v438 : BitVec 32) {Q : BitVec 32 → sProp 𝕄} :
    iprop(records m ρ K ∗ Rv m ρ c 9)
      ⊢ iprop((∀ r, Rv m ρ c 12 -∗ Q r) -∗ wp frame (wpE (defs₀ (F := F)) 𝒱₀ (c : Thread nD τ) none) Set.univ
        (k0_part15 xM (Memref.isWhole_whole _) dM (Memref.isWhole_whole _) oM (Memref.isWhole_whole _) sM (Memref.isWhole_whole _) rM (Memref.isWhole_whole _) cc0_scratch2 cc0_scratch3 cc0_scratch4 c v2 v438) Q) := by
  rw [k0_part15_eq_skeleton]
  unfold k0_part15_skel
  simp only [semSignalWord, semWaitWord, Prog.lift, Prog.bind_op, Prog.bind_ret, Prog.pure_eq_ret, wp_deviceId]
  iintro ⟨#HR, Hs⟩ Hk
  iapply (recv_at m ρ K c 9 (by decide) rfl) $$ [Hs]
  · isplitr; · iexact HR
    iexact Hs
  iintro Hs
  iapply (recv_at m ρ K c 10 (by decide) rfl) $$ [Hs]
  · isplitr; · iexact HR
    iexact Hs
  iintro Hs
  iapply (recv_at m ρ K c 11 (by decide) rfl) $$ [Hs]
  · isplitr; · iexact HR
    iexact Hs
  iintro Hs
  rw [wp_ret]; imodintro
  iapply Hk; iexact Hs

/-- The receives of offsets 12 and 13. -/
theorem run_part16 (c : Dev nD) (v2 v469 : BitVec 32) {Q : PUnit → sProp 𝕄} :
    iprop(records m ρ K ∗ Rv m ρ c 12)
      ⊢ iprop((∀ r, Rv m ρ c 14 -∗ Q r) -∗ wp frame (wpE (defs₀ (F := F)) 𝒱₀ (c : Thread nD τ) none) Set.univ
        (k0_part16 xM (Memref.isWhole_whole _) dM (Memref.isWhole_whole _) oM (Memref.isWhole_whole _) sM (Memref.isWhole_whole _) rM (Memref.isWhole_whole _) cc0_scratch2 cc0_scratch3 cc0_scratch4 c v2 v469) Q) := by
  rw [k0_part16_eq_skeleton]
  unfold k0_part16_skel
  simp only [semSignalWord, semWaitWord, Prog.lift, Prog.bind_op, Prog.bind_ret, Prog.pure_eq_ret, wp_deviceId]
  iintro ⟨#HR, Hs⟩ Hk
  iapply (recv_at m ρ K c 12 (by decide) rfl) $$ [Hs]
  · isplitr; · iexact HR
    iexact Hs
  iintro Hs
  iapply (recv_at m ρ K c 13 (by decide) rfl) $$ [Hs]
  · isplitr; · iexact HR
    iexact Hs
  iintro Hs
  rw [wp_ret]; imodintro
  iapply Hk; iexact Hs

/-- The send waits of offsets 4 to 9. -/
theorem run_part19 (c : Dev nD)  {Q : PUnit → sProp 𝕄} :
    iprop(records m ρ K ∗ Sw m ρ c 4)
      ⊢ iprop((∀ r, Sw m ρ c 10 -∗ Q r) -∗ wp frame (wpE (defs₀ (F := F)) 𝒱₀ (c : Thread nD τ) none) Set.univ
        (k0_part19 xM (Memref.isWhole_whole _) dM (Memref.isWhole_whole _) oM (Memref.isWhole_whole _) sM (Memref.isWhole_whole _) rM (Memref.isWhole_whole _) cc0_scratch2 cc0_scratch3 cc0_scratch4 c) Q) := by
  rw [k0_part19_eq_skeleton]
  unfold k0_part19_skel
  simp only [semSignalWord, semWaitWord, Prog.lift, Prog.bind_op, Prog.bind_ret, Prog.pure_eq_ret, wp_deviceId]
  iintro ⟨#HR, Hs⟩ Hk
  iapply (sendw_at m ρ K c 4 (by decide) rfl) $$ [Hs]
  · isplitr; · iexact HR
    iexact Hs
  iintro Hs
  iapply (sendw_at m ρ K c 5 (by decide) rfl) $$ [Hs]
  · isplitr; · iexact HR
    iexact Hs
  iintro Hs
  iapply (sendw_at m ρ K c 6 (by decide) rfl) $$ [Hs]
  · isplitr; · iexact HR
    iexact Hs
  iintro Hs
  iapply (sendw_at m ρ K c 7 (by decide) rfl) $$ [Hs]
  · isplitr; · iexact HR
    iexact Hs
  iintro Hs
  iapply (sendw_at m ρ K c 8 (by decide) rfl) $$ [Hs]
  · isplitr; · iexact HR
    iexact Hs
  iintro Hs
  iapply (sendw_at m ρ K c 9 (by decide) rfl) $$ [Hs]
  · isplitr; · iexact HR
    iexact Hs
  iintro Hs
  rw [wp_ret]; imodintro
  iapply Hk; iexact Hs

end Cert.Exchange

end
-- ==== Proof.Parts.lean ====
/-
# # The parts of the body that change phase

The barrier, the packing of the send buffer, the read of what was received, and the store of the result.
-/
module

public import proofs.«01_k».proof.Proof.Waits

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 34 → ℕ)

/-! ## A buffer as one block and the fifteen others -/

/-- The device `k` steps on, and the device `k` steps back, as bijections. -/
def ahead (c : Fin 16) : Fin 16 ≃ Fin 16 := ⟨fun k => c + k, fun j => j - c, fun k => by revert c k; decide, fun j => by revert c j; decide⟩
def behind (c : Fin 16) : Fin 16 ≃ Fin 16 := ⟨fun k => c - k, fun j => c - j, fun k => by revert c k; decide, fun j => by revert c j; decide⟩

omit [FloatOps F] in
theorem ahead_split (c : Fin 16) (Φ : Fin 16 → sProp 𝕄) : bigSep Finset.univ Φ = iprop(Φ c ∗ bigSep (from_ 1) fun k => Φ (c + k)) := by
  rw [bigSep_univ_equiv (ahead c) Φ, bigSep_univ_at _ (0 : Fin 16), from_one]
  have h : ahead c 0 = c := by revert c; decide
  rw [h]; rfl
omit [FloatOps F] in
theorem behind_split (c : Fin 16) (Φ : Fin 16 → sProp 𝕄) : bigSep Finset.univ Φ = iprop(Φ c ∗ bigSep (upto 16) fun k => Φ (c - k)) := by
  rw [bigSep_univ_equiv (behind c) Φ, bigSep_univ_at _ (0 : Fin 16), upto_16]
  have h : behind c 0 = c := by revert c; decide
  rw [h]; rfl

/-! ## Whole-buffer accesses -/

theorem hz2 : (![0, 0] : Fin 2 → ℕ) = fun _ => 0 := funext fun a => by fin_cases a <;> rfl
theorem hz1 : (![0] : Fin 1 → ℕ) = fun _ => 0 := funext fun a => by fin_cases a; rfl

abbrev xPts (c : Dev nD) (f : Buf (Elt F) ((c : Thread nD τ).loc cc0_stg0_0)) : sProp 𝕄 := ((c : Thread nD τ).loc cc0_stg0_0) ↦{fullShare} f
abbrev dPts (c : Dev nD) (f : Buf (Elt F) ((c : Thread nD τ).loc cc0_stg1_0)) : sProp 𝕄 := ((c : Thread nD τ).loc cc0_stg1_0) ↦{fullShare} f
abbrev oPts (c : Dev nD) (f : Buf (Elt F) ((c : Thread nD τ).loc cc0_stg2_0)) : sProp 𝕄 := ((c : Thread nD τ).loc cc0_stg2_0) ↦{fullShare} f
abbrev sPts (c : Dev nD) (f : Buf (Elt F) ((c : Thread nD τ).loc cc0_scratch0)) : sProp 𝕄 := ((c : Thread nD τ).loc cc0_scratch0) ↦{fullShare} f
abbrev rPts (c : Dev nD) (f : Buf (Elt F) ((c : Thread nD τ).loc cc0_scratch1)) : sProp 𝕄 := ((c : Thread nD τ).loc cc0_scratch1) ↦{fullShare} f

abbrev rect1 : Rect S512 := Rect.unit (s := S512) ![0] S512.size inb_S512_S512_0
abbrev rect2 : Rect S512x256 := Rect.unit (s := S512x256) ![0, 0] S512x256.size inb_S512x256_S512x256_0_0
abbrev rectB : Rect S1024x256 := Rect.unit (s := S1024x256) ![0, 0] S1024x256.size inb_S1024x256_S1024x256_0_0

omit [FloatOps F] in
theorem read_x (f : (cc0_stg0_0 : Ref sig .tc).ty.Contents (Elt F)) : xM.view.readAt (Elt F) rect2.toLoadRect f = f :=
  Memref.readAt_unit_zero (Elt F) cc0_stg0_0 hz2 _ f
omit [FloatOps F] in
theorem read_d (f : (cc0_stg1_0 : Ref sig .tc).ty.Contents (Elt F)) : dM.view.readAt (Elt F) rect1.toLoadRect f = f :=
  Memref.readAt_unit_zero (Elt F) cc0_stg1_0 hz1 _ f
omit [FloatOps F] in
theorem read_r (f : (cc0_scratch1 : Ref sig .tc).ty.Contents (Elt F)) : rM.view.readAt (Elt F) rectB.toLoadRect f = f :=
  Memref.readAt_unit_zero (Elt F) cc0_scratch1 hz2 _ f
omit [FloatOps F] in
theorem write_s (f w : (cc0_scratch0 : Ref sig .tc).ty.Contents (Elt F)) :
    (sM.access rectB : View sig .tc _ _ _).write (Elt F) f w Finset.univ = w :=
  Memref.write_access_unit_zero_univ (Elt F) cc0_scratch0 hz2 _ f w
omit [FloatOps F] in
theorem write_o (f w : (cc0_stg2_0 : Ref sig .tc).ty.Contents (Elt F)) :
    (oM.access rect2 : View sig .tc _ _ _).write (Elt F) f w Finset.univ = w :=
  Memref.write_access_unit_zero_univ (Elt F) cc0_stg2_0 hz2 _ f w

/-! ## The parts that change phase -/

/-- Once the last unit is sent a device owes only its copies. -/
theorem units_done (c : Dev nD) : (Sg (F := F) c 16) ⊢ ow c (owesCopies c 1) := by
  unfold Sg; rw [owesBoth_16]; exact sep_elim_left

/-- The device's own number, and the units of offsets 1 to 5. -/
theorem run_part1 (c : Dev nD) {Q : (Σ' (d0 : Dev nD) (v2 : BitVec 32) (v3 : Sems sig S_) (v24 : BitVec 32), BitVec 32) → sProp 𝕄} :
    iprop(records m ρ K ∗ Sg c 1)
      ⊢ iprop((∀ v2 v24, Sg c 6 -∗ Q ⟨c, v2, SemArray.scalar (sig.barrier 0 rfl), v24, 16#32⟩) -∗ wp frame (wpE (defs₀ (F := F)) 𝒱₀ (c : Thread nD τ) none) Set.univ
        (k0_part1 xM (Memref.isWhole_whole _) dM (Memref.isWhole_whole _) oM (Memref.isWhole_whole _) sM (Memref.isWhole_whole _) rM (Memref.isWhole_whole _) cc0_scratch2 cc0_scratch3 cc0_scratch4) Q) := by
  rw [k0_part1_eq_skeleton]
  unfold k0_part1_skel
  simp only [semSignalWord, semWaitWord, Prog.lift, Prog.bind_op, Prog.bind_ret, Prog.pure_eq_ret, wp_deviceId]
  iintro ⟨#HR, Hs⟩ Hk
  iapply (sig_step m ρ K c (⟨k0_dev1 c, k0_dev1_lt c⟩ : Dev nD) 1 (by decide) (Fin.ext (k0_dev1_eq c)) (by decide)) $$ [Hs]
  · isplitr; · iexact HR
    iexact Hs
  iintro Hs
  iapply (sig_step m ρ K c (⟨k0_dev2 c, k0_dev2_lt c⟩ : Dev nD) 2 (by decide) (Fin.ext (k0_dev2_eq c)) (by decide)) $$ [Hs]
  · isplitr; · iexact HR
    iexact Hs
  iintro Hs
  iapply (sig_step m ρ K c (⟨k0_dev3 c, k0_dev3_lt c⟩ : Dev nD) 3 (by decide) (Fin.ext (k0_dev3_eq c)) (by decide)) $$ [Hs]
  · isplitr; · iexact HR
    iexact Hs
  iintro Hs
  iapply (sig_step m ρ K c (⟨k0_dev4 c, k0_dev4_lt c⟩ : Dev nD) 4 (by decide) (Fin.ext (k0_dev4_eq c)) (by decide)) $$ [Hs]
  · isplitr; · iexact HR
    iexact Hs
  iintro Hs
  iapply (sig_step m ρ K c (⟨k0_dev5 c, k0_dev5_lt c⟩ : Dev nD) 5 (by decide) (Fin.ext (k0_dev5_eq c)) (by decide)) $$ [Hs]
  · isplitr; · iexact HR
    iexact Hs
  iintro Hs
  rw [wp_ret]; imodintro
  iapply Hk; iexact Hs

/-- The last units, the wait for everybody else's, and the two reads of the destinations. -/
theorem run_part3 (c : Dev nD) (v2 v48 w : BitVec 32) (d : Vec F S512 .i32) {Q : (Σ' (v66 : IVec S1x512 32), IVec S512x512 32) → sProp 𝕄} :
    iprop(records m ρ K ∗ (Sg c 12 ∗ cred (tallyAt (barCell c) () 15) ∗ atPos EX (barCell c) 0 ∅ 0 ∗ levAts L lv) ∗ dPts c d)
      ⊢ iprop(((Ba c ∗ dPts c d) -∗ Q ⟨k0_pay1 d, k0_pay2 d d⟩) -∗ wp frame (wpE (defs₀ (F := F)) 𝒱₀ (c : Thread nD τ) none) Set.univ
        (k0_part3 xM (Memref.isWhole_whole _) dM (Memref.isWhole_whole _) oM (Memref.isWhole_whole _) sM (Memref.isWhole_whole _) rM (Memref.isWhole_whole _) cc0_scratch2 cc0_scratch3 cc0_scratch4 c v2 (SemArray.scalar (sig.barrier 0 rfl)) v48 w) Q) := by
  rw [k0_part3_eq_skeleton]
  unfold k0_part3_skel
  simp only [semSignalWord, semWaitWord, Prog.lift, Prog.bind_op, Prog.bind_ret, Prog.pure_eq_ret, wp_deviceId]
  iintro ⟨#HR, ⟨Hs, Hc, Hat, Hlev⟩, Hd⟩ Hk
  iapply (sig_step m ρ K c (⟨k0_dev12 c, k0_dev12_lt c⟩ : Dev nD) 12 (by decide) (Fin.ext (k0_dev12_eq c)) (by decide)) $$ [Hs]
  · isplitr; · iexact HR
    iexact Hs
  iintro Hs
  iapply (sig_step m ρ K c (⟨k0_dev13 c, k0_dev13_lt c⟩ : Dev nD) 13 (by decide) (Fin.ext (k0_dev13_eq c)) (by decide)) $$ [Hs]
  · isplitr; · iexact HR
    iexact Hs
  iintro Hs
  iapply (sig_step m ρ K c (⟨k0_dev14 c, k0_dev14_lt c⟩ : Dev nD) 14 (by decide) (Fin.ext (k0_dev14_eq c)) (by decide)) $$ [Hs]
  · isplitr; · iexact HR
    iexact Hs
  iintro Hs
  iapply (sig_step m ρ K c (⟨k0_dev15 c, k0_dev15_lt c⟩ : Dev nD) 15 (by decide) (Fin.ext (k0_dev15_eq c)) (by decide)) $$ [Hs]
  · isplitr; · iexact HR
    iexact Hs
  iintro Hs
  ihave Ho := (show Sg (F := F) c ((15 : Fin 16).val + 1) ⊢ ow c (owesCopies c 1) from units_done c) $$ Hs
  iapply (bar_step m ρ K c (by decide)) $$ [Ho Hc Hat Hlev]
  · isplitr; · iexact HR
    unfold Bw
    isplitl [Ho]; · iexact Ho
    isplitl [Hc]; · iexact Hc
    isplitl [Hat] <;> iassumption
  iintro Hb
  iapply (wp_load 𝒱₀ (c : Thread nD τ) none Set.univ (m := dM) (Finset.subset_univ _)) $$ Hd; iintro Hd
  rw [read_d]
  iapply (wp_load 𝒱₀ (c : Thread nD τ) none Set.univ (m := dM) (Finset.subset_univ _)) $$ Hd; iintro Hd
  rw [read_d]
  rw [wp_ret]; imodintro
  iapply Hk
  isplitl [Hb] <;> iassumption

/-- The arithmetic between: no effect. -/
theorem run_part4 (c : Dev nD) (v66 : IVec S1x512 32) (v79 : IVec S512x512 32) {Q : _ → sProp 𝕄} :
    Q ⟨k0_pay3 v79, k0_pay4 (F := F) v66, k0_pay5, sel64, k0_pay6, k0_pay7, k0_pay8⟩ ⊢ wp frame (wpE (defs₀ (F := F)) 𝒱₀ (c : Thread nD τ) none) Set.univ (k0_part4 xM (Memref.isWhole_whole _) dM (Memref.isWhole_whole _) oM (Memref.isWhole_whole _) sM (Memref.isWhole_whole _) rM (Memref.isWhole_whole _) cc0_scratch2 cc0_scratch3 cc0_scratch4 v66 v79) Q := by
  rw [k0_part4_eq_skeleton]
  unfold k0_part4_skel
  simp only [Prog.pure_eq_ret]
  rw [wp_ret]
  iintro H; imodintro; iexact H

/-- The rows packed into the send buffer, and the local copy started. -/
theorem run_part5 (c : Dev nD) (v2 : BitVec 32) (v66 : IVec S1x512 32) (v81 : IVec S1x512 32) (v91 : FVec F S16x1 .f32) (v116 : IVec S1024x1 32)
    (v118 : BitVec 32) (v120 : IVec S1024x1 32) (v122 : IVec S1024x1 1) (v123 : IVec S1024x1 32) (x : Vec F S512x256 .bf16)
    (hp : k0_pay11 v66 v81 v91 v116 v118 v120 v122 v123 x = sendAll m ρ c)
    {Q : (Σ' (v134 : IVec S1024x1 32), FVec F S1024x16 .f32) → sProp 𝕄} :
    iprop(records m ρ K ∗ xPts c x ∗ (∃ f, sPts c f) ∗ (∃ f, slotPts c c f) ∗ dutyTok EX (locCell c) 0 0)
      ⊢ iprop(((xPts c x ∗ (bigSep (from_ 1) fun k => sblkPts c (c + k) (sendAll m ρ c)) ∗ cred (tallyAt (locCell c) () N))
          -∗ Q ⟨k0_pay9 v118 v120 v122 v123, k0_pay10 (F := F) v116⟩) -∗ wp frame (wpE (defs₀ (F := F)) 𝒱₀ (c : Thread nD τ) none) Set.univ
        (k0_part5 xM (Memref.isWhole_whole _) dM (Memref.isWhole_whole _) oM (Memref.isWhole_whole _) sM (Memref.isWhole_whole _) rM (Memref.isWhole_whole _) cc0_scratch2 cc0_scratch3 cc0_scratch4 c v2 v66 v81 v91 v116 v118 v120 v122 v123) Q) := by
  rw [k0_part5_eq_skeleton]
  unfold k0_part5_skel
  simp only [semSignalWord, semWaitWord, Prog.lift, Prog.bind_op, Prog.bind_ret, Prog.pure_eq_ret, wp_deviceId]
  iintro ⟨#HR, Hx, ⟨%f, Hs⟩, Hslot, Htok⟩ Hk
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := rectB) (Mk := Finset.univ) (Finset.subset_univ _)) $$ Hs; iintro Hs
  rw [write_s, hp]
  ihave Hs' := (Entails.of_eq ((send_split c (sendAll m ρ c)).trans (ahead_split c _))) $$ Hs
  icases Hs' with ⟨Hown, Hblks⟩
  iapply (local_step m ρ K c (k0_off1_eq c) rfl) $$ [Hown Hslot Htok]
  · isplitr; · iexact HR
    isplitl [Hown]; · iexact Hown
    isplitl [Hslot] <;> iassumption
  iintro Hc
  rw [wp_ret]; imodintro
  iapply Hk
  isplitl [Hx]; · iexact Hx
  isplitl [Hblks] <;> iassumption

/-- The local copy's wait. -/
theorem locw_at (c : Dev nD) {s : DmaSem sig} (hs : s = locS)
    {src : Memref sig .tc .vmem S64x256 .bf16} {off : Fin 2 → ℕ} {inb : ∀ a, off a + S64x256.size a ≤ S1024x256.size a}
    {h1 : ∀ a, (Rect.unit (s := S1024x256) off S64x256.size inb).stride a = 1} {hsrc : src.view.WordExact}
    {hdst : (rM.slice (Rect.unit (s := S1024x256) off S64x256.size inb) h1).view.WordExact}
    {α : Type} {Q : α → sProp 𝕄} {p : PUnit → Prog (TpuEff nD τ sig (Elt F) Λ₀ .tc) α} :
    iprop(records m ρ K ∗ ow (F := F) c 0 ∗ cred (tallyAt (locCell c) () N) ∗ atPos EX (locCell c) 0 ∅ 0)
      ⊢ iprop(((ow c 0 ∗ locPay m ρ c ∗ semVal (locCell c) 0) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src (rM.slice (Rect.unit (s := S1024x256) off S64x256.size inb) h1) hsrc hdst) p) Q) :=
  locw_step m ρ K c hs (src := src) (dst := rM.slice (Rect.unit (s := S1024x256) off S64x256.size inb) h1) (hsrc := hsrc) (hdst := hdst) rfl

/-- The last receives, the local copy's wait, and the read of the whole receive buffer. -/
theorem run_part17 (c : Dev nD) (v2 : BitVec 32) (v116 : IVec S1024x1 32) (v152 : FVec F S1024x16 .f32)
    {Q : (Σ' (v515 : Vec F S1024x256 .bf16) (v532 : IVec S1024x1 32), FVec F S1024x1 .f32) → sProp 𝕄} :
    iprop(records m ρ K ∗ Rv m ρ c 14 ∗ cred (tallyAt (locCell c) () N) ∗ atPos EX (locCell c) 0 ∅ 0)
      ⊢ iprop(((ow (F := F) c 0 ∗ rPts c (recvAll m ρ c) ∗ sblkPts c c (sendAll m ρ c) ∗ (bigSep (upto 16) fun k => semVal (recvCell c k) 0) ∗ semVal (locCell c) 0)
          -∗ Q ⟨recvAll m ρ c, k0_pay13 v116 (recvAll m ρ c), k0_pay14 v152 (recvAll m ρ c)⟩) -∗ wp frame (wpE (defs₀ (F := F)) 𝒱₀ (c : Thread nD τ) none) Set.univ
        (k0_part17 xM (Memref.isWhole_whole _) dM (Memref.isWhole_whole _) oM (Memref.isWhole_whole _) sM (Memref.isWhole_whole _) rM (Memref.isWhole_whole _) cc0_scratch2 cc0_scratch3 cc0_scratch4 c v2 v116 v152) Q) := by
  rw [k0_part17_eq_skeleton]
  unfold k0_part17_skel
  simp only [semSignalWord, semWaitWord, Prog.lift, Prog.bind_op, Prog.bind_ret, Prog.pure_eq_ret, wp_deviceId]
  iintro ⟨#HR, Hs, Hc, Hat⟩ Hk
  iapply (recv_at m ρ K c 14 (by decide) rfl) $$ [Hs]
  · isplitr; · iexact HR
    iexact Hs
  iintro Hs
  iapply (recv_at m ρ K c 15 (by decide) rfl) $$ [Hs]
  · isplitr; · iexact HR
    iexact Hs
  iintro Hs
  unfold Rv
  icases Hs with ⟨Ho, -, -, Hp, Hz⟩
  iapply (locw_at m ρ K c rfl) $$ [Ho Hc Hat]
  · isplitr; · iexact HR
    isplitl [Ho]; · iexact Ho
    isplitl [Hc]; · iexact Hc
    iexact Hat
  iintro ⟨Ho, Hl, Hzl⟩
  unfold locPay recvPay
  icases Hl with ⟨Hown, Hblk⟩
  ihave Hr := (Entails.of_eq ((recv_split c (recvAll m ρ c)).trans (behind_split c _)).symm) $$ [Hown Hp]
  · isplitl [Hown]; · iexact Hown
    iexact Hp
  iapply (wp_load 𝒱₀ (c : Thread nD τ) none Set.univ (m := rM) (Finset.subset_univ _)) $$ Hr; iintro Hr
  rw [read_r]
  rw [wp_ret]; imodintro
  iapply Hk
  isplitl [Ho]; · iexact Ho
  isplitl [Hr]; · iexact Hr
  isplitl [Hblk]; · iexact Hblk
  isplitl [Hz]; · iexact Hz
  iexact Hzl

/-- The result stored, and the first send waits. -/
theorem run_part18 (c : Dev nD) (v134 : IVec S1024x1 32) (v515 : Vec F S1024x256 .bf16) (v532 : IVec S1024x1 32) (v533 : FVec F S1024x1 .f32)
    {Q : PUnit → sProp 𝕄} :
    iprop(records m ρ K ∗ Sw m ρ c 1 ∗ (∃ f, oPts c f))
      ⊢ iprop(((Sw m ρ c 4 ∗ oPts c (k0_pay15 v134 v515 v532 v533)) -∗ Q ⟨⟩) -∗ wp frame (wpE (defs₀ (F := F)) 𝒱₀ (c : Thread nD τ) none) Set.univ
        (k0_part18 xM (Memref.isWhole_whole _) dM (Memref.isWhole_whole _) oM (Memref.isWhole_whole _) sM (Memref.isWhole_whole _) rM (Memref.isWhole_whole _) cc0_scratch2 cc0_scratch3 cc0_scratch4 c v134 v515 v532 v533) Q) := by
  rw [k0_part18_eq_skeleton]
  unfold k0_part18_skel
  simp only [semSignalWord, semWaitWord, Prog.lift, Prog.bind_op, Prog.bind_ret, Prog.pure_eq_ret, wp_deviceId]
  iintro ⟨#HR, Hs, ⟨%f, Hout⟩⟩ Hk
  iapply (wp_load 𝒱₀ (c : Thread nD τ) none Set.univ (m := oM) (Finset.subset_univ _)) $$ Hout; iintro Hout
  iapply (wp_store 𝒱₀ (c : Thread nD τ) none Set.univ (m := oM) (r := rect2) (Mk := Finset.univ) (Finset.subset_univ _)) $$ Hout; iintro Hout
  rw [write_o]
  iapply (sendw_at m ρ K c 1 (by decide) rfl) $$ [Hs]
  · isplitr; · iexact HR
    iexact Hs
  iintro Hs
  iapply (sendw_at m ρ K c 2 (by decide) rfl) $$ [Hs]
  · isplitr; · iexact HR
    iexact Hs
  iintro Hs
  iapply (sendw_at m ρ K c 3 (by decide) rfl) $$ [Hs]
  · isplitr; · iexact HR
    iexact Hs
  iintro Hs
  rw [wp_ret]; imodintro
  iapply Hk
  isplitl [Hs]; · iexact Hs
  iexact Hout

end Cert.Exchange

end
-- ==== Proof.Body.lean ====
/-
# # The body, from its parts
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 34 → ℕ)

/-! ## What a device starts from and ends with -/

/-- The tokens device `c` pays with. -/
def tokens (c : Dev nD) : sProp 𝕄 :=
  iprop((bigSep (from_ 1) fun k => dutyTok EX (barCell (c + k : Fin 16)) 0 (-k)) ∗ (bigSep (from_ 1) fun k => dutyTok EX (sendCell c k) 0 0)
    ∗ (bigSep (from_ 1) fun k => dutyTok EX (recvCell (c + k : Fin 16) k) 0 0) ∗ dutyTok EX (locCell c) 0 0)
/-- Its places at its own cells. -/
def places (c : Dev nD) : sProp 𝕄 :=
  iprop((bigSep Finset.univ fun k => atPos EX (sendCell c k) 0 ∅ 0) ∗ (bigSep Finset.univ fun k => atPos EX (recvCell c k) 0 ∅ 0)
    ∗ atPos EX (locCell c) 0 ∅ 0 ∗ atPos EX (barCell c) 0 ∅ 0)
/-- The credit of what the other devices owe its cells. -/
def credits (c : Dev nD) : sProp 𝕄 :=
  iprop(cred (tallyAt (barCell c) () 15) ∗ (bigSep (from_ 1) fun k => cred (tallyAt (recvCell c k) () N)))
/-- Its own cells at the end: all closed, at zero. -/
def closedOwn (c : Dev nD) : sProp 𝕄 :=
  iprop((bigSep Finset.univ fun k => semVal (sendCell c k) 0) ∗ (bigSep Finset.univ fun k => semVal (recvCell c k) 0) ∗ semVal (locCell c) 0)

omit [FloatOps F] in
theorem zero_and (Φ : Fin 16 → sProp 𝕄) : bigSep Finset.univ Φ = iprop(Φ 0 ∗ bigSep (from_ 1) Φ) := by
  rw [from_one]; exact bigSep_univ_at Φ 0

def pre (c : Dev nD) : sProp 𝕄 :=
  iprop(tokens c ∗ places c ∗ credits c ∗ levAts L lv ∗ ow c (O₀ c) ∗ (∃ f, sPts c f) ∗ (∃ f, rPts c f)
    ∗ xPts c (xstg m ρ c) ∗ dPts c (dstg m ρ c) ∗ (∃ f, oPts c f))
/-- What is set aside from the last send waits on. -/
def aside (c : Dev nD) : sProp 𝕄 :=
  iprop(xPts c (xstg m ρ c) ∗ dPts c (dstg m ρ c) ∗ oPts c (outAt m ρ c) ∗ rPts c (recvAll m ρ c) ∗ sblkPts c c (sendAll m ρ c)
    ∗ semVal (sendCell c 0) 0 ∗ semVal (barCell c) 0 ∗ (bigSep Finset.univ fun k => semVal (recvCell c k) 0) ∗ semVal (locCell c) 0)
def post (c : Dev nD) : sProp 𝕄 :=
  iprop(closedOwn c ∗ semVal (barCell c) 0 ∗ ow (F := F) c 0 ∗ sPts c (sendAll m ρ c) ∗ rPts c (recvAll m ρ c)
    ∗ xPts c (xstg m ρ c) ∗ dPts c (dstg m ρ c) ∗ oPts c (outAt m ρ c))

/-- From the copies done to the receives to do, and from those to the send waits to do. -/
theorem to_recv (c : Dev nD) :
    iprop(Sd m ρ c 16 ∗ (bigSep (from_ 1) fun k => cred (tallyAt (recvCell c k) () N)) ∗ (bigSep (from_ 1) fun k => atPos EX (recvCell c k) 0 ∅ 0))
      ⊢ iprop(Rv m ρ c 1 ∗ bigSep (from_ 1) fun k => cred (tallyAt (sendCell c k) () N)) := by
  unfold Sd Rv
  rw [owesCopies_16, upto_one, bigSep_empty, bigSep_empty, upto_16, ← from_one]
  iintro ⟨⟨Ho, -, -, -, -, Hc⟩, Hcr, Hat⟩
  isplitr [Hc]
  · isplitl [Ho]; · iexact Ho
    isplitl [Hcr]; · iexact Hcr
    isplitl [Hat]; · iexact Hat
    isplitr <;> iempintro
  iexact Hc

set_option maxHeartbeats 1000000 in
/-- All but the last two send waits. -/
theorem run_part20 (c : Dev nD) {Q : Dev nD → sProp 𝕄} :
    iprop(records m ρ K ∗ pre m ρ c)
      ⊢ iprop(((Sw m ρ c 14 ∗ aside m ρ c) -∗ Q c) -∗ wp frame (wpE (defs₀ (F := F)) 𝒱₀ (c : Thread nD τ) none) Set.univ
        (k0_part20 xM (Memref.isWhole_whole _) dM (Memref.isWhole_whole _) oM (Memref.isWhole_whole _) sM (Memref.isWhole_whole _) rM (Memref.isWhole_whole _) cc0_scratch2 cc0_scratch3 cc0_scratch4) Q) := by
  rw [k0_part20_eq_skeleton]
  unfold k0_part20_skel pre tokens places credits
  rw [zero_and, zero_and]
  iintro ⟨#HR, ⟨HtB, HtS, HtR, HtL⟩, ⟨⟨HaS0, HaS⟩, ⟨HaR0, HaR⟩, HaL, HaB⟩, ⟨HcB, HcR⟩, Hlev, Ho, Hsb, ⟨%fr, Hrb⟩, Hx, Hd, Hout⟩ Hk
  ihave Hr := (Entails.of_eq ((recv_split c fr).trans (ahead_split c _))) $$ Hrb
  icases Hr with ⟨Hown, Hslots⟩
  ihave Hs := (show iprop(ow (F := F) c (O₀ c) ∗ (bigSep (from_ 1) fun k => dutyTok EX (barCell (c + k : Fin 16)) 0 (-k))
      ∗ (bigSep (from_ 1) fun k => slotPts c (c + k) fr)) ⊢ Sg c 1 from by
    unfold Sg O₀
    exact sep_mono_right (sep_mono_right (bigSep_mono fun k _ => (show (slotPts c (c + k) fr : sProp 𝕄) ⊢ iprop(∃ f, slotPts (F := F) c (c + k) f) from by iintro H; iexists fr; iexact H)))) $$ [Ho HtB Hslots]
  · isplitl [Ho]; · iexact Ho
    isplitl [HtB]; · iexact HtB
    iexact Hslots
  rw [wp_bind]
  iapply (run_part1 m ρ K c) $$ [Hs]
  · isplitr; · iexact HR
    iexact Hs
  iintro %v2 %v24 Hs
  dsimp only
  rw [wp_bind]
  iapply (run_part2 m ρ K c v2 v24 16#32) $$ [Hs]
  · isplitr; · iexact HR
    iexact Hs
  iintro %r2 Hs
  obtain ⟨v48, w48⟩ := r2
  dsimp only
  rw [wp_bind]
  iapply (run_part3 m ρ K c v2 v48 w48 (dstg m ρ c)) $$ [Hs HcB HaB Hlev Hd]
  · isplitr; · iexact HR
    isplitl [Hs HcB HaB Hlev]
    · isplitl [Hs]; · iexact Hs
      isplitl [HcB]; · iexact HcB
      isplitl [HaB]; · iexact HaB
      iexact Hlev
    iexact Hd
  iintro ⟨Hb, Hd⟩
  dsimp only
  rw [wp_bind]
  iapply (run_part4 c (k0_pay1 (dstg m ρ c)) (k0_pay2 (dstg m ρ c) (dstg m ρ c)))
  dsimp only
  rw [wp_bind]
  iapply (run_part5 m ρ K c v2 _ _ _ _ _ _ _ _ (xstg m ρ c) (show _ = sendAll m ρ c from rfl)) $$ [Hx Hsb Hown HtL]
  · isplitr; · iexact HR
    isplitl [Hx]; · iexact Hx
    isplitl [Hsb]; · iexact Hsb
    isplitl [Hown]; · iexists fr; iexact Hown
    iexact HtL
  iintro ⟨Hx, Hblks, HcL⟩
  dsimp only
  unfold Ba
  icases Hb with ⟨Ho, HzB, Hdst⟩
  ihave Hs := (show iprop(ow c (owesCopies c 1) ∗ (bigSep (from_ 1) fun k => dutyTok EX (sendCell c k) 0 0)
      ∗ (bigSep (from_ 1) fun k => dutyTok EX (recvCell (c + k : Fin 16) k) 0 0) ∗ (bigSep (from_ 1) fun k => sblkPts c (c + k) (sendAll m ρ c))
      ∗ (bigSep (from_ 1) fun k => iprop(∃ f, slotPts (F := F) (c + k : Fin 16) c f))) ⊢ Sd m ρ c 1 from by
    unfold Sd
    rw [upto_one, bigSep_empty]
    iintro ⟨H1, H2, H3, H4, H5⟩
    isplitl [H1]; · iexact H1
    isplitl [H2]; · iexact H2
    isplitl [H3]; · iexact H3
    isplitl [H4]; · iexact H4
    isplitl [H5]; · iexact H5
    iempintro) $$ [Ho HtS HtR Hblks Hdst]
  · isplitl [Ho]; · iexact Ho
    isplitl [HtS]; · iexact HtS
    isplitl [HtR]; · iexact HtR
    isplitl [Hblks]; · iexact Hblks
    iexact Hdst
  rw [wp_bind]
  iapply (run_part6 m ρ K c v2) $$ [Hs]
  · isplitr; · iexact HR
    iexact Hs
  iintro %r6 Hs
  rw [wp_bind]
  iapply (run_part7 m ρ K c v2) $$ [Hs]
  · isplitr; · iexact HR
    iexact Hs
  iintro %r7 Hs
  obtain ⟨v229, w229⟩ := r7
  dsimp only
  rw [wp_bind]
  iapply (run_part8 m ρ K c v2 v229 w229) $$ [Hs]
  · isplitr; · iexact HR
    iexact Hs
  iintro %r8 Hs
  rw [wp_bind]
  iapply (run_part9 m ρ K c v2) $$ [Hs]
  · isplitr; · iexact HR
    iexact Hs
  iintro %r9 Hs
  rw [wp_bind]
  iapply (run_part10 m ρ K c v2 r9) $$ [Hs]
  · isplitr; · iexact HR
    iexact Hs
  iintro %r10 Hs
  rw [wp_bind]
  iapply (run_part11 m ρ K c v2 r10) $$ [Hs]
  · isplitr; · iexact HR
    iexact Hs
  iintro %r11 Hs
  obtain ⟨v353, w353⟩ := r11
  dsimp only
  ihave Hs2 := (to_recv m ρ c) $$ [Hs HcR HaR]
  · isplitl [Hs]; · iexact Hs
    isplitl [HcR]; · iexact HcR
    iexact HaR
  icases Hs2 with ⟨Hs, HcS⟩
  rw [wp_bind]
  iapply (run_part12 m ρ K c v2 v353 w353) $$ [Hs]
  · isplitr; · iexact HR
    iexact Hs
  iintro %r12 Hs
  rw [wp_bind]
  iapply (run_part13 m ρ K c v2 r12) $$ [Hs]
  · isplitr; · iexact HR
    iexact Hs
  iintro %r13 Hs
  rw [wp_bind]
  iapply (run_part14 m ρ K c v2) $$ [Hs]
  · isplitr; · iexact HR
    iexact Hs
  iintro %r14 Hs
  rw [wp_bind]
  iapply (run_part15 m ρ K c v2 r14) $$ [Hs]
  · isplitr; · iexact HR
    iexact Hs
  iintro %r15 Hs
  rw [wp_bind]
  iapply (run_part16 m ρ K c v2 r15) $$ [Hs]
  · isplitr; · iexact HR
    iexact Hs
  iintro %r16 Hs
  rw [wp_bind]
  iapply (run_part17 m ρ K c v2 _ _) $$ [Hs HcL HaL]
  · isplitr; · iexact HR
    isplitl [Hs]; · iexact Hs
    isplitl [HcL]; · iexact HcL
    iexact HaL
  iintro ⟨Ho, Hr, Hblk, HzR, HzL⟩
  dsimp only
  ihave Hs := (show iprop(ow (F := F) c 0 ∗ (bigSep (from_ 1) fun k => cred (tallyAt (sendCell c k) () N)) ∗ (bigSep (from_ 1) fun k => atPos EX (sendCell c k) 0 ∅ 0))
      ⊢ Sw m ρ c 1 from by
    unfold Sw
    rw [upto_one, bigSep_empty, bigSep_empty]
    iintro ⟨H1, H2, H3⟩
    isplitl [H1]; · iexact H1
    isplitl [H2]; · iexact H2
    isplitl [H3]; · iexact H3
    isplitr <;> iempintro) $$ [Ho HcS HaS]
  · isplitl [Ho]; · iexact Ho
    isplitl [HcS]; · iexact HcS
    iexact HaS
  rw [wp_bind]
  iapply (run_part18 m ρ K c _ _ _ _) $$ [Hs Hout]
  · isplitr; · iexact HR
    isplitl [Hs]; · iexact Hs
    iexact Hout
  iintro ⟨Hs, Hout⟩
  rw [wp_bind]
  iapply (run_part19 m ρ K c) $$ [Hs]
  · isplitr; · iexact HR
    iexact Hs
  iintro %r19 Hs
  simp only [semSignalWord, semWaitWord, Prog.lift, Prog.bind_op, Prog.bind_ret, Prog.pure_eq_ret, wp_deviceId]
  iapply (sendw_at m ρ K c 10 (by decide) rfl) $$ [Hs]
  · isplitr; · iexact HR
    iexact Hs
  iintro Hs
  iapply (sendw_at m ρ K c 11 (by decide) rfl) $$ [Hs]
  · isplitr; · iexact HR
    iexact Hs
  iintro Hs
  iapply (sendw_at m ρ K c 12 (by decide) rfl) $$ [Hs]
  · isplitr; · iexact HR
    iexact Hs
  iintro Hs
  iapply (sendw_at m ρ K c 13 (by decide) rfl) $$ [Hs]
  · isplitr; · iexact HR
    iexact Hs
  iintro Hs
  ihave #HIs := (inv_send m ρ K c 0) $$ HR
  ihave #HIr := (inv_recv m ρ K c 0) $$ HR
  rw [wp_ret]
  imod (Rounds.cell_close EX (xRd m ρ) (Set.mem_univ (K (c, nSend 0))) (fun h => h) (R := 0) (duties_unused_send m ρ c)) $$ [HaS0] with HzS0
  · isplitr; · iexact HIs
    iexact HaS0
  imod (Rounds.cell_close EX (xRd m ρ) (Set.mem_univ (K (c, nRecv 0))) (fun h => h) (R := 0) (duties_unused_recv m ρ c)) $$ [HaR0] with HzR0
  · isplitr; · iexact HIr
    iexact HaR0
  imodintro
  iapply Hk
  isplitl [Hs]; · iexact Hs
  unfold aside
  rw [zero_and (fun k => (semVal (recvCell c k) 0 : sProp 𝕄)), from_one, ← upto_16]
  isplitl [Hx]; · iexact Hx
  isplitl [Hd]; · iexact Hd
  isplitl [Hout]; · iexact Hout
  isplitl [Hr]; · iexact Hr
  isplitl [Hblk]; · iexact Hblk
  isplitl [HzS0]; · iexact HzS0
  isplitl [HzB]; · iexact HzB
  isplitr [HzL]
  · isplitl [HzR0]; · iexact HzR0
    iexact HzR
  iexact HzL

/-- **The body.** -/
theorem run_body (c : Dev nD) {Q : PUnit → sProp 𝕄} :
    iprop(records m ρ K ∗ pre m ρ c)
      ⊢ iprop((post m ρ c -∗ Q ⟨⟩) -∗ wp frame (wpE (defs₀ (F := F)) 𝒱₀ (c : Thread nD τ) none) Set.univ (cc0_body xM (Memref.isWhole_whole _) dM (Memref.isWhole_whole _) oM (Memref.isWhole_whole _) sM (Memref.isWhole_whole _) rM (Memref.isWhole_whole _) cc0_scratch2 cc0_scratch3 cc0_scratch4) Q) := by
  rw [cc0_body_eq_skeleton]
  unfold cc0_body_skel
  iintro ⟨#HR, Hp⟩ Hk
  rw [wp_bind]
  iapply (run_part20 m ρ K c) $$ [Hp]
  · isplitr; · iexact HR
    iexact Hp
  iintro ⟨Hs, Ha⟩
  simp only [semSignalWord, semWaitWord, Prog.lift, Prog.bind_op, Prog.bind_ret, Prog.pure_eq_ret, wp_deviceId]
  iapply (sendw_at m ρ K c 14 (by decide) rfl) $$ [Hs]
  · isplitr; · iexact HR
    iexact Hs
  iintro Hs
  iapply (sendw_at m ρ K c 15 (by decide) rfl) $$ [Hs]
  · isplitr; · iexact HR
    iexact Hs
  iintro Hs
  rw [wp_ret]; imodintro
  iapply Hk
  unfold post closedOwn aside Sw sendPay
  icases Ha with ⟨Hx, Hd, Hout, Hr, Hblk, HzS0, HzB, HzR, HzL⟩
  icases Hs with ⟨Ho, -, -, Hblks, HzS⟩
  isplitl [HzS0 HzS HzR HzL]
  · rw [zero_and (fun k => (semVal (sendCell c k) 0 : sProp 𝕄)), from_one, ← upto_16]
    isplitl [HzS0 HzS]
    · isplitl [HzS0]; · iexact HzS0
      iexact HzS
    isplitl [HzR]; · iexact HzR
    iexact HzL
  isplitl [HzB]; · iexact HzB
  isplitl [Ho]; · iexact Ho
  isplitl [Hblk Hblks]
  · iapply (Entails.of_eq ((send_split c (sendAll m ρ c)).trans (ahead_split c _)).symm)
    isplitl [Hblk]; · iexact Hblk
    rw [from_one, ← upto_16]
    iexact Hblks
  isplitl [Hr]; · iexact Hr
  isplitl [Hx]; · iexact Hx
  isplitl [Hd]; · iexact Hd
  iexact Hout

end Cert.Exchange

end
-- ==== Proof.Obligation.lean ====
/-
# # The body as the pipeline asks for it
-/
module

public import proofs.«01_k».proof.Proof.Body
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What the body starts from beside its staged blocks: the records at some names, what the launch dealt, and both buffers. -/
def start (c : Dev nD) : sProp 𝕄 := iprop((∃ K, records m ρ K) ∗ tokens c ∗ places c ∗ credits c ∗ levAts L lv)
def Φ₀ (c : Dev nD) : sProp 𝕄 := iprop(start m ρ c ∗ (∃ f, sPts c f) ∗ (∃ f, rPts c f))
/-- After the body: both buffers, and every cell closed. -/
def Φ₁ (c : Dev nD) : sProp 𝕄 := iprop((∃ f, sPts (F := F) c f) ∗ (∃ f, rPts (F := F) c f) ∗ closedOwn c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xstg m ρ c) ∗ stg c cc0_stg1_0 (dstg m ρ c) ∗ stg c cc0_stg2_0 (outAt m ρ c))

theorem sound_body (c : Dev nD) :
    bodyPre m ρ c ⊢ wp frame (wpE (defs₀ (F := F)) 𝒱₀ (c : Thread nD τ) none) Set.univ
      (cc0_body xM (Memref.isWhole_whole _) dM (Memref.isWhole_whole _) oM (Memref.isWhole_whole _) sM (Memref.isWhole_whole _) rM (Memref.isWhole_whole _) cc0_scratch2 cc0_scratch3 cc0_scratch4) (fun _ => bodyPost m ρ c) := by
  unfold bodyPre Φ₀ start
  iintro ⟨⟨⟨⟨%K, #HR⟩, Ht, Hp, Hc, Hlev⟩, Hs, Hr⟩, Ho, ⟨%d0, %g0, %hg0, Hx⟩, ⟨%d1, %g1, %hg1, Hd⟩, ⟨%d2, %g2, %hg2, Hout⟩⟩
  have hx : g0 = xstg m ρ c := by rw [hg0]; unfold Dat.before; rw [if_pos (fetch0_0 t0_0)]; rfl
  have hd : g1 = dstg m ρ c := by rw [hg1]; unfold Dat.before; rw [if_pos (fetch0_1 t0_0)]; rfl
  subst hx hd
  unfold Dat.owesAt Pipeline.owesWithin
  icases Ho with ⟨%W, %hW, HO⟩
  rw [show (dats m ρ 0 c).owed t0_0.castSucc = O₀ c from rfl]
  iapply (run_body m ρ K c) $$ [Ht Hp Hc Hlev Hs Hr HO Hx Hd Hout]
  · isplitr; · iexact HR
    unfold pre ow
    isplitl [Ht]; · iexact Ht
    isplitl [Hp]; · iexact Hp
    isplitl [Hc]; · iexact Hc
    isplitl [Hlev]; · iexact Hlev
    isplitl [HO]; · iexists W; iexact HO
    isplitl [Hs]; · iexact Hs
    isplitl [Hr]; · iexact Hr
    isplitl [Hx]; · iexact Hx
    isplitl [Hd]; · iexact Hd
    iexists g2; iexact Hout
  unfold post ow
  iintro ⟨Hz, HzB, ⟨%W', HO⟩, Hs, Hr, Hx, Hd, Hout⟩
  unfold bodyPost Φ₁ Dat.owesAt Pipeline.owesWithin
  rw [show (dats m ρ 0 c).owed t0_0.succ = 0 from rfl]
  isplitl [Hs Hr Hz HzB]
  · isplitl [Hs]; · iexists _; iexact Hs
    isplitl [Hr]; · iexists _; iexact Hr
    isplitl [Hz]; · iexact Hz
    iexact HzB
  isplitl [HO]
  · iexists W'
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Hout

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.Exchange

end
-- ==== Proof.Dealing.lean ====
/-
# The launch's dealing: cells opened, tokens handed to the devices that pay, credit for what is owed
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the exchange's cells -/

/-- The kernel's own transfer semaphores: sixteen for sending, sixteen for receiving, one for the local copy. -/
def osem (n : Fin 33) : SemLoc sig := .dma ⟨3 + n.val, by have := n.isLt; show _ < 36; omega⟩
theorem ownSemFacts : Pipeline.OwnSemFacts cfg0.spec osem := by decide

theorem csem_injective : Function.Injective csem := by decide
theorem kcell_injective : Function.Injective (kcell : Dev nD × Fin 34 → GSem nD τ sig) := by
  rintro ⟨c, k⟩ ⟨c', k'⟩ h
  have h1 : c = c' := congrArg (fun g : GSem nD τ sig => g.1.1) h
  subst h1
  exact congrArg (Prod.mk c) (csem_injective (congrArg Prod.snd h : csem k = csem k'))
def exCells : Finset (GSem nD τ sig) := Finset.univ.map ⟨kcell, kcell_injective⟩

/-- Thirty-four numbers: sixteen send cells, sixteen receive cells, the local cell, the barrier. -/
def number : (Fin 16 ⊕ Fin 16) ⊕ Fin 2 ≃ Fin 34 :=
  (Equiv.sumCongr (finSumFinEquiv (m := 16) (n := 16)) (Equiv.refl (Fin 2))).trans (finSumFinEquiv (m := 32) (n := 2))

omit [FloatOps F] in
theorem each (Φ : Fin 34 → sProp 𝕄) :
    bigSep Finset.univ Φ = iprop(((bigSep Finset.univ fun k : Fin 16 => Φ (nSend k)) ∗ (bigSep Finset.univ fun k : Fin 16 => Φ (nRecv k))) ∗ Φ nLoc ∗ Φ nBar) := by
  rw [bigSep_univ_equiv number, bigSep_univ_sum, bigSep_univ_sum, bigSep_fin_two]
  rfl

/-- Thirty-three: the same without the barrier. -/
def number' : (Fin 16 ⊕ Fin 16) ⊕ Fin 1 ≃ Fin 33 :=
  (Equiv.sumCongr (finSumFinEquiv (m := 16) (n := 16)) (Equiv.refl (Fin 1))).trans (finSumFinEquiv (m := 32) (n := 1))

omit [FloatOps F] in
theorem each' (Φ : Fin 33 → sProp 𝕄) :
    bigSep Finset.univ Φ = iprop(((bigSep Finset.univ fun k : Fin 16 => Φ ⟨k.val, by have := k.isLt; omega⟩) ∗ (bigSep Finset.univ fun k : Fin 16 => Φ ⟨16 + k.val, by have := k.isLt; omega⟩)) ∗ Φ 32) := by
  rw [bigSep_univ_equiv number', bigSep_univ_sum, bigSep_univ_sum, show (Finset.univ : Finset (Fin 1)) = {0} from rfl, bigSep_singleton]
  rfl

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun k => semVal (sendCell c k) 0) ∗ (bigSep Finset.univ fun k => semVal (recvCell c k) 0)) ∗ semVal (locCell c) 0) := by
  unfold Pipeline.ownSems0
  rw [each']
  congr 1
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 34 => semVal (kcell (c, k)) 0 : sProp 𝕄) := by
  rw [ownSems0_eq, unscopedSems0_eq, each]
  simp only [kcell_send, kcell_recv, kcell_loc, kcell_bar]
  iintro ⟨⟨H, HL⟩, HB⟩
  isplitl [H]; · iexact H
  isplitl [HL]; · iexact HL
  iexact HB

/-! ## The tokens: minted at their cells, dealt to the devices that pay them -/

/-- A device's own cells' duties. -/
abbrev Duty : Type := (Fin 16 ⊕ Fin 16) ⊕ (Fin 16 ⊕ Unit)
abbrev tokOf (cj : Dev nD × Duty) : GSem nD τ sig × ℕ × Fin 16 := match cj.2 with
  | .inl (.inl d) => (barCell cj.1, 0, d)
  | .inl (.inr k) => (sendCell cj.1 k, 0, 0)
  | .inr (.inl k) => (recvCell cj.1 k, 0, 0)
  | .inr (.inr _) => (locCell cj.1, 0, 0)
theorem tokOf_injective : Function.Injective (tokOf : Dev nD × Duty → GSem nD τ sig × ℕ × Fin 16) := by
  rintro ⟨c, j⟩ ⟨c', j'⟩ h
  have h1 : c = c' := by
    have := congrArg (fun x : GSem nD τ sig × ℕ × Fin 16 => x.1.1.1) h
    rcases j with (j | j) | (j | j) <;> rcases j' with (j' | j') | (j' | j') <;> exact this
  subst h1
  have hs : (tokOf (c, j)).1.2 = (tokOf (c, j')).1.2 := congrArg (fun x : GSem nD τ sig × ℕ × Fin 16 => x.1.2) h
  have hd : (tokOf (c, j)).2.2 = (tokOf (c, j')).2.2 := congrArg (fun x : GSem nD τ sig × ℕ × Fin 16 => x.2.2) h
  have key : ∀ a b : DmaSem sig, SemLoc.dma a = SemLoc.dma b → a.val = b.val := fun a b e => by cases e; rfl
  rcases j with (j | j) | (j | j) <;> rcases j' with (j' | j') | (j' | j')
  case inl.inl.inl.inl => have : j = j' := hd; rw [this]
  case inl.inr.inl.inr => rw [show j = j' from Fin.ext (Nat.add_left_cancel (key _ _ hs))]
  case inr.inl.inr.inl => rw [show j = j' from Fin.ext (Nat.add_left_cancel (key _ _ hs))]
  case inr.inr.inr.inr => rfl
  all_goals
    exfalso
    first
    | (cases hs; done)
    | (have e := key _ _ hs
       have hj : ∀ q : Fin 16, q.val < 16 := fun q => q.isLt
       dsimp only at e
       first
       | (have := hj j; have := hj j'; omega)
       | (have := hj j; omega)
       | (have := hj j'; omega))
def exToks : Finset (GSem nD τ sig × ℕ × Fin 16) := Finset.univ.map ⟨tokOf, tokOf_injective⟩

/-- The duty tokens of device `c`'s own cells. -/
def toks (c : Dev nD) : sProp 𝕄 :=
  iprop(((bigSep Finset.univ fun d => dutyTok EX (barCell c) 0 d) ∗ (bigSep Finset.univ fun k => dutyTok EX (sendCell c k) 0 0))
    ∗ (bigSep Finset.univ fun k => dutyTok EX (recvCell c k) 0 0) ∗ dutyTok EX (locCell c) 0 0)

/-- A unit's token: duty `d` of `c`'s barrier is paid by device `c + d`, for which `c` is `-d` steps on. -/
def aroundBar : Dev nD × Fin 16 ≃ Dev nD × Fin 16 where
  toFun p := ((p.1 + p.2 : Fin 16), -p.2)
  invFun p := ((p.1 + p.2 : Fin 16), -p.2)
  left_inv := by rintro ⟨c, k⟩; exact (show ∀ c k : Fin 16, ((c + k + -k, - -k) : Fin 16 × Fin 16) = (c, k) by decide) c k
  right_inv := by rintro ⟨c, k⟩; exact (show ∀ c k : Fin 16, ((c + k + -k, - -k) : Fin 16 × Fin 16) = (c, k) by decide) c k
/-- A landing's token: receive cell `k` of device `c + k` is paid by `c`. -/
def aroundRecv : Dev nD × Fin 16 ≃ Dev nD × Fin 16 where
  toFun p := ((p.1 + p.2 : Fin 16), p.2)
  invFun p := ((p.1 - p.2 : Fin 16), p.2)
  left_inv := by rintro ⟨c, k⟩; exact (show ∀ c k : Fin 16, ((c + k - k, k) : Fin 16 × Fin 16) = (c, k) by decide) c k
  right_inv := by rintro ⟨c, k⟩; exact (show ∀ c k : Fin 16, ((c - k + k, k) : Fin 16 × Fin 16) = (c, k) by decide) c k

omit [FloatOps F] in
theorem bar_around : (bigSep Finset.univ fun c : Dev nD => bigSep Finset.univ fun d : Fin 16 => (dutyTok EX (barCell c) 0 d : sProp 𝕄))
    ⊢ bigSep Finset.univ fun c : Dev nD => bigSep (from_ 1) fun k : Fin 16 => (dutyTok EX (barCell (c + k : Fin 16)) 0 (-k) : sProp 𝕄) := by
  rw [← bigSep_univ_prod (fun p : Dev nD × Fin 16 => (dutyTok EX (barCell p.1) 0 p.2 : sProp 𝕄)), bigSep_univ_equiv aroundBar, bigSep_univ_prod]
  exact bigSep_mono fun c _ => bigSep_subset (Finset.subset_univ _)
omit [FloatOps F] in
theorem recv_around : (bigSep Finset.univ fun c : Dev nD => bigSep Finset.univ fun d : Fin 16 => (dutyTok EX (recvCell c d) 0 0 : sProp 𝕄))
    ⊢ bigSep Finset.univ fun c : Dev nD => bigSep (from_ 1) fun k : Fin 16 => (dutyTok EX (recvCell (c + k : Fin 16) k) 0 0 : sProp 𝕄) := by
  rw [← bigSep_univ_prod (fun p : Dev nD × Fin 16 => (dutyTok EX (recvCell p.1 p.2) 0 0 : sProp 𝕄)), bigSep_univ_equiv aroundRecv, bigSep_univ_prod]
  exact bigSep_mono fun c _ => bigSep_subset (Finset.subset_univ _)

omit [FloatOps F] in
theorem toks_around : (bigSep Finset.univ fun c : Dev nD => (toks c : sProp 𝕄)) ⊢ bigSep Finset.univ fun c : Dev nD => tokens c := by
  unfold toks tokens
  simp only [bigSep_sep']
  iintro ⟨⟨HB, HS⟩, HR, HL⟩
  isplitl [HB]; · iapply (bar_around (F := F)); iexact HB
  isplitl [HS]
  · iapply (show (bigSep Finset.univ fun c : Dev nD => bigSep Finset.univ fun k : Fin 16 => (dutyTok EX (sendCell c k) 0 0 : sProp 𝕄))
      ⊢ (bigSep Finset.univ fun c : Dev nD => bigSep (from_ 1) fun k : Fin 16 => (dutyTok EX (sendCell c k) 0 0 : sProp 𝕄)) from
        bigSep_mono fun c _ => bigSep_subset (Finset.subset_univ _))
    iexact HS
  isplitl [HR]; · iapply (recv_around (F := F)); iexact HR
  iexact HL

/-! ## The launch's ghost state -/

def u₀ : UU :=
  (initOf (Pipeline.cells cfgs cellOf_inj) (Pipeline.launchToks cfgs cellOf_inj), initOf exCells exToks)

/-- What the launch element deals device `c`. -/
def G (c : Dev nD) : sProp 𝕄 :=
  iprop((bigSep Finset.univ fun k : Fin 34 => roundState EX (xRd m ρ) (kcell (c, k)) 0)
    ∗ ((bigSep Finset.univ fun k : Fin 34 => atPos EX (kcell (c, k)) 0 ∅ 0) ∗ (bigSep Finset.univ fun k : Fin 34 => reached EX (kcell (c, k)) 0)) ∗ toks c)
/-- What it holds once every cell is opened. -/
def G' (c : Dev nD) : sProp 𝕄 := iprop((∃ K, records m ρ K) ∗ tokens c ∗ places c)

theorem fund_exchange : BI.own (EX (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 34 => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]
    refine bigSep_congr fun c _ => ?_
    unfold toks
    rw [bigSep_univ_sum, bigSep_univ_sum, bigSep_univ_sum, show (Finset.univ : Finset Unit) = {()} from rfl, bigSep_singleton]
    rfl
  iintro HX
  imod (Rounds.fund EX (xRd m ρ) exCells exToks) $$ HX with ⟨Hst, Hr, Hat, Htok⟩
  imodintro
  ihave Hst' := (Entails.of_eq (hX fun g => roundState EX (xRd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- One device's cells, opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (xRd m ρ) κ (kcell (c, k))))
          ∗ ((bigSep Finset.univ fun k : Fin 34 => atPos EX (kcell (c, k)) 0 ∅ 0) ∗ (bigSep Finset.univ fun k : Fin 34 => reached EX (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Fin 34 => semVal (kcell (c, k)) 0) ∗ bigSep Finset.univ fun k : Fin 34 => roundState EX (xRd m ρ) (kcell (c, k)) 0)
      ⊢ (|={Set.univ}=> bigSep Finset.univ fun k => iprop(∃ κ : ℕ, cellInv EX (xRd m ρ) κ (kcell (c, k))) : sProp 𝕄) from by
        rw [← bigSep_sep']
        exact (bigSep_mono fun k _ => (Rounds.body_intro EX (xRd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
theorem places_eq (c : Dev nD) : (bigSep Finset.univ fun k : Fin 34 => atPos EX (kcell (c, k)) 0 ∅ 0 : sProp 𝕄) ⊢ places c := by
  rw [each]
  unfold places
  simp only [kcell_send, kcell_recv, kcell_loc, kcell_bar]
  iintro ⟨⟨H1, H2⟩, H3, H4⟩
  isplitl [H1]; · iexact H1
  isplitl [H2]; · iexact H2
  isplitl [H3]; · iexact H3
  iexact H4

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (xRd m ρ) κ (kcell (c, k))))
          ∗ ((bigSep Finset.univ fun k : Fin 34 => atPos EX (kcell (c, k)) 0 ∅ 0) ∗ (bigSep Finset.univ fun k : Fin 34 => reached EX (kcell (c, k)) 0)) ∗ toks c) : sProp 𝕄)
      ⊢ bigSep Finset.univ (G' m ρ) := by
  simp only [bigSep_sep']
  rw [← bigSep_univ_prod (fun ck : Dev nD × Fin 34 => iprop(∃ κ : ℕ, cellInv EX (xRd m ρ) κ (kcell ck))),
    ← bigSep_univ_prod (fun ck : Dev nD × Fin 34 => (reached EX (kcell ck) 0 : sProp 𝕄))]
  iintro ⟨HI, ⟨Hat, #HR⟩, Htok⟩
  ihave HK := (BI.bigSep_exists_pi Finset.univ (fun (ck : Dev nD × Fin 34) (κ : ℕ) => (cellInv EX (xRd m ρ) κ (kcell ck) : sProp 𝕄))) $$ HI
  icases HK with ⟨%K, #HI⟩
  ihave Htk := (toks_around (F := F)) $$ Htok
  ihave Hpl := (show (bigSep Finset.univ fun c : Dev nD => bigSep Finset.univ fun k : Fin 34 => (atPos EX (kcell (c, k)) 0 ∅ 0 : sProp 𝕄))
      ⊢ bigSep Finset.univ fun c : Dev nD => places c from bigSep_mono fun c _ => places_eq c) $$ Hat
  iapply (bigSep_beside (R := records m ρ K) (Φ := fun c => iprop(tokens c ∗ places c)) fun c _ => show iprop(records m ρ K ∗ tokens c ∗ places c) ⊢ G' m ρ c from by
    unfold G'
    iintro ⟨HR, H⟩
    isplitl [HR]; · iexists K; iexact HR
    iexact H)
  isplitr
  · unfold records; isplitl; · iexact HI
    iexact HR
  · rw [bigSep_sep']
    isplitl [Htk]; · iexact Htk
    iexact Hpl

/-- Every device's cells opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of what the devices owe one another -/

/-- A transfer semaphore's number. -/
def numberOf : SemLoc sig → ℕ
  | .dma a => a.val
  | .reg _ => 0

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {k k' : Fin 16} : Iff (recvCell a k = recvCell b k') (a = b ∧ k = k') :=
  ⟨fun h => ⟨Fin.ext (congrArg (fun g : GSem nD τ sig => g.1.1.val) h), by
    have h2 : SemLoc.dma (recvS k) = SemLoc.dma (recvS k') := congrArg Prod.snd h
    have h3 : (recvS k).val = (recvS k').val := congrArg numberOf h2
    exact Fin.ext (Nat.add_left_cancel h3)⟩, fun h => by rw [h.1, h.2]⟩

omit [FloatOps F] in
theorem units_at (d c : Dev nD) : owesUnits d 1 (barCell c) () = ∑ k ∈ from_ 1, if (d + k : Fin 16) = c then 1 else 0 := by
  unfold owesUnits
  rw [Finset.sum_apply, Finsupp.finset_sum_apply]
  refine Finset.sum_congr rfl fun k _ => ?_
  by_cases h : (d + k : Fin 16) = c
  · rw [if_pos h, h, tallyAt_apply, if_pos ⟨rfl, rfl⟩]
  · rw [if_neg h, tallyAt_ne_cell (fun e => h (by first | exact bar_eq_iff.mp e | exact (bar_eq_iff.mp e).symm)), Finsupp.zero_apply]
omit [FloatOps F] in
theorem copies_bar (d c : Dev nD) : owesCopies d 1 (barCell c) () = 0 := by
  unfold owesCopies
  rw [Finset.sum_apply, Finsupp.finset_sum_apply]
  refine Finset.sum_eq_zero fun k _ => ?_
  rw [tallyAt_ne_cell (fun e => by have h := congrArg Prod.snd e; cases h), Finsupp.zero_apply]
omit [FloatOps F] in
theorem units_recv (d c : Dev nD) (j : Fin 16) : owesUnits d 1 (recvCell c j) () = 0 := by
  unfold owesUnits
  rw [Finset.sum_apply, Finsupp.finset_sum_apply]
  refine Finset.sum_eq_zero fun k _ => ?_
  rw [tallyAt_ne_cell (fun e => by have h := congrArg Prod.snd e; cases h), Finsupp.zero_apply]
omit [FloatOps F] in
theorem copies_at (d c : Dev nD) (j : Fin 16) (hj : j ≠ 0) : owesCopies d 1 (recvCell c j) () = if (d + j : Fin 16) = c then N else 0 := by
  unfold owesCopies
  rw [Finset.sum_apply, Finsupp.finset_sum_apply, Finset.sum_eq_single_of_mem j (mem_from_one.mpr hj) fun k _ hk => by
    rw [tallyAt_ne_cell (fun e => hk (by first | exact (recv_eq_iff.mp e).2 | exact (recv_eq_iff.mp e).2.symm)), Finsupp.zero_apply]]
  by_cases h : (d + j : Fin 16) = c
  · rw [if_pos h, h, tallyAt_apply, if_pos ⟨rfl, rfl⟩]
  · rw [if_neg h, tallyAt_ne_cell (fun e => h (by first | exact (recv_eq_iff.mp e).1 | exact (recv_eq_iff.mp e).1.symm)), Finsupp.zero_apply]

theorem fifteen : ∀ c : Fin 16, (∑ d : Fin 16, ∑ k ∈ from_ 1, if (d + k : Fin 16) = c then 1 else 0) = 15 := by decide
theorem once (n : ℕ) (c j : Fin 16) : (∑ d : Fin 16, if (d + j : Fin 16) = c then n else 0) = n := by
  rw [Finset.sum_eq_single_of_mem (c - j) (Finset.mem_univ _) fun d _ hd => if_neg fun e => hd ((show ∀ d j c : Fin 16, d + j = c → d = c - j by decide) d j c e)]
  exact if_pos ((show ∀ c j : Fin 16, c - j + j = c by decide) c j)

omit [FloatOps F] in
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from by
    unfold O₀ owesBoth; rw [Pi.add_apply, Finsupp.add_apply, copies_bar, units_at, Nat.zero_add]]
  exact fifteen c

omit [FloatOps F] in
theorem launch_recv (c : Dev nD) (k : Fin 16) (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => show O₀ d (recvCell c k) () = _ from by
    unfold O₀ owesBoth; rw [Pi.add_apply, Finsupp.add_apply, copies_at d c k hk, units_recv, Nat.add_zero]]
  exact once N c k

def recvLoc : Fin 16 ↪ SemLoc sig := ⟨fun k => .dma (recvS k), fun k k' h => by
  have h3 : (recvS k).val = (recvS k').val := congrArg numberOf (show SemLoc.dma (recvS k) = SemLoc.dma (recvS k') from h)
  exact Fin.ext (Nat.add_left_cancel h3)⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := (from_ 1).map recvLoc) fun sm hsm => ?_).trans ?_
  · obtain ⟨k, _, rfl⟩ := Finset.mem_map.mp hsm
    exact Finset.mem_erase.mpr ⟨(fun e => by have e' : SemLoc.dma (recvS k) = SemLoc.reg barS := e; cases e'), Finset.mem_univ _⟩
  · rw [bigSep_map]
    exact bigSep_mono fun k hk => Entails.of_eq (congrArg cred (launch_recv c k (mem_from_one.mp hk)))

end Cert.Exchange

end
-- ==== Proof.Launching.lean ====
/-
# The run on the sixteen devices
-/
module

public import proofs.«01_k».proof.Proof.Obligation
public import proofs.«01_k».proof.Proof.Dealing
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨HR, HT, HP⟩
  isplitl
  · isplitl [HR]; · iexact HR
    isplitl [HT]; · iexact HT
    isplitl [HP]; · iexact HP
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H1, H2⟩
  isplitl [Hs]; · iexact Hs
  isplitl [H1]; · iexact H1
  iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closedOwn
  iintro ⟨H1, H2, ⟨HzS, HzR, HzL⟩, HzB⟩
  isplitl [HzB]; · iexact HzB
  isplitl [HzS HzR HzL]
  · isplitl [HzS HzR]
    · isplitl [HzS]; · iexact HzS
      iexact HzR
    iexact HzL
  isplitl [H1]; · iexact H1
  iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values and from any memory with zero counters: every weakly fair execution
    of the program terminates, and at the end each device's arrays hold what the proof data says and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The rows' array after the run holds what it held, -/
theorem finalA_x (c : Dev nD) : finalA m ρ c (0 : Fin 3) = m ((c : Thread nD τ).loc main_arg0) :=
  (dats (F := F) m ρ 0 c).arrAt_in (0 : Fin 3) rfl _
/-- and so does the destinations' array. -/
theorem finalA_d (c : Dev nD) : finalA m ρ c (1 : Fin 3) = m ((c : Thread nD τ).loc main_arg1) :=
  (dats (F := F) m ρ 0 c).arrAt_in (1 : Fin 3) rfl _

theorem mem_x {r : PUnit × MemSt nD τ sig (Elt F)} (h : QC m ρ r) (c : Dev nD) :
    r.2.mem ((c : Thread nD τ).loc main_arg0) = m ((c : Thread nD τ).loc main_arg0) := (h c (0 : Fin 3)).trans (finalA_x m ρ c)
theorem mem_d {r : PUnit × MemSt nD τ sig (Elt F)} (h : QC m ρ r) (c : Dev nD) :
    r.2.mem ((c : Thread nD τ).loc main_arg1) = m ((c : Thread nD τ).loc main_arg1) := (h c (1 : Fin 3)).trans (finalA_d m ρ c)

end Cert.Exchange

end
-- ==== Proof.Frames.lean ====
/-
# The frames: each program runs, leaves its arguments alone, and ends with every counter at zero

The kernel and its idealization are one text, so the run is proved once, over any float values, and read at both.
-/
module

public import proofs.«01_k».proof.Defs
public import proofs.«01_k».proof.Proof.Launching
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Exchange

open Idealize.ShloMosaic Idealize.SL.Sem

/-- The run, its arguments unchanged and every counter at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨mem_x m ρ h.1 c, mem_d m ρ h.1 c⟩, h.2⟩) (run_main (F := F) m ρ)

theorem frame_kernelIdeal : Cert.quiescent_KernelIdeal := fun m ρ _ => frame_run (F := Ideal) m ρ

/-- The two programs' kernel tables are one, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
/-- and so are the tables with the pipeline's entries. -/
theorem defs_eq : Cert.Kernel.defs (F := Bits) = Cert.KernelIdeal.defs (F := Bits) := congrArg (Pipeline.defs _) bodies_eq

theorem frame_kernel : Cert.quiescent_Kernel := fun m ρ _ => by
  rw [defs_eq]
  exact frame_run (F := Bits) m ρ

/-- The reference's one device has no semaphore. -/
theorem frame_reference : Cert.quiescent_ReferenceIdeal := fun m ρ _ =>
  (θ_run Cert.ReferenceIdeal.defs _ _).mono (fun r h => ⟨fun c => (h c).2, funext fun g => by
      rcases g with ⟨_, ⟨_, hk⟩ | ⟨_, hk⟩⟩ <;> exact absurd hk (Nat.not_lt_zero _)⟩) (Cert.ReferenceIdeal.Value.run (F := Ideal) m ρ)

end Cert.Exchange

end
-- ==== Proof.Conditions.lean ====
/-
# The side conditions of the preconditions' operations

The shape relations that the preconditions' operations take, over one device's arrays and over the whole ones.
-/
module

public import proofs.«01_k».proof.Pre_fits_KernelIdeal
public import proofs.«01_k».proof.Pre_fits_ReferenceIdeal
public import proofs.«01_k».proof.Pre_balanced

@[expose] public section

noncomputable section

namespace Cert.Exchange

open Idealize.ShloMosaic

/-- One device's. -/
instance deviceConditions : Cert.Pre_fits_KernelIdeal.Facts where
  bcast_S512_S1x512_1 := by decide
  bcast_S16_S16x1_0 := by decide
  bcast_S1x512_S16x512_0_1 := by decide
  bcast_S16x1_S16x512_0_1 := by decide
  natLt_1_32 := by decide
  reducesTo_S16x512_S16_d1 := by decide
  h_S_ := by decide
  bcast_S_S16 := by decide

/-- The whole arrays'. -/
instance wholeConditions : Cert.Pre_fits_ReferenceIdeal.Facts where
  bcast_S8192_S1x8192_1 := by decide
  bcast_S16_S16x1_0 := by decide
  bcast_S1x8192_S16x8192_0_1 := by decide
  bcast_S16x1_S16x8192_0_1 := by decide
  natLt_1_32 := by decide
  reducesTo_S16x8192_S16_d1 := by decide
  h_S_ := by decide
  bcast_S_S16 := by decide

/-- The second precondition's, over the whole arrays. -/
instance balancedConditions : Cert.Pre_balanced.Facts where
  bcast_S8192_S1x8192_1 := by decide
  bcast_S16_S16x1_0 := by decide
  bcast_S1x8192_S16x8192_0_1 := by decide
  bcast_S16x1_S16x8192_0_1 := by decide
  natLt_1_32 := by decide
  reducesTo_S16x8192_S16_d1 := by decide
  h_S_ := by decide
  bcast_S_S16 := by decide

end Cert.Exchange

end
-- ==== Proof.Counting.lean ====
/-
# Counts, indicator words and indicator sums

What the value modules use of numbers: a one-bit word turned into a float at `Ideal` is 0 or 1; an integer sum of
such words is a count; a sum weighted by 0/1 is a sum of `if`s; a small natural survives the trips between words
and extended reals.
-/
module

public import Idealize.ShloMosaic.Lib.Pointwise
public import Idealize.ShloMosaic.Lib.IndicatorCount
public import Idealize.ShloMosaic.Lib.Routing.Count
public import Idealize.ShloMosaic.Lib.WordCmp

@[expose] public section

noncomputable section

namespace Cert.Exchange

open Idealize.ShloMosaic
open Idealize.ShloMosaic.WordCmp (cmpi_eq_eq cmpi_slt_eq cmpi_sge_eq ofBool_decide_eq_one_iff)
open scoped BigOperators

/-- A bit, widened and turned into a float: 1 where it is set, else 0. -/
theorem float_of_bit (φ : FTy) (b : BitVec 1) :
    FloatOps.sitofp (F := Ideal) φ (b.setWidth 32) = if b = 1#1 then (1 : EReal) else 0 := by
  have h : b = 0#1 ∨ b = 1#1 := by
    rcases b with ⟨⟨v, hv⟩⟩
    have : v = 0 ∨ v = 1 := by omega
    rcases this with rfl | rfl
    · exact Or.inl rfl
    · exact Or.inr rfl
  rcases h with rfl | rfl
  · show (((BitVec.setWidth 32 0#1).toInt : ℝ) : EReal) = _
    rw [if_neg (by decide), show (BitVec.setWidth 32 0#1).toInt = 0 from by decide]
    simp
  · show (((BitVec.setWidth 32 1#1).toInt : ℝ) : EReal) = _
    rw [if_pos rfl, show (BitVec.setWidth 32 1#1).toInt = 1 from by decide]
    simp

/-- A small natural's word as a float is that natural. -/
theorem float_of_nat (φ : FTy) (n : ℕ) (h : n < 2 ^ 31) :
    FloatOps.sitofp (F := Ideal) φ (BitVec.ofNat 32 n) = ((n : ℕ) : EReal) := by
  show (((BitVec.ofNat 32 n).toInt : ℝ) : EReal) = _
  have e : (BitVec.ofNat 32 n).toInt = (n : ℤ) := by
    rw [BitVec.toInt_ofNat']
    norm_num [Int.bmod]
    omega
  rw [e, Int.cast_natCast, EReal.coe_natCast]

/-- A small natural, as a float, turned back into a word. -/
theorem word_of_nat (n : ℕ) (h : n < 2 ^ 31) (φ : FTy) :
    FloatOps.fptosi (F := Ideal) (φ := φ) 32 (((n : ℕ) : EReal)) = BitVec.ofNat 32 n := by
  show Ideal.fptosi 32 ((n : ℕ) : EReal) = _
  rw [← EReal.coe_natCast]
  show BitVec.ofInt 32 (max (-(2 ^ (32 - 1) : ℕ)) (min (((2 ^ (32 - 1) : ℕ) : ℤ) - 1) (if 0 ≤ (n : ℝ) then ⌊(n : ℝ)⌋ else ⌈(n : ℝ)⌉))) = _
  rw [if_pos (Nat.cast_nonneg n), Int.floor_natCast,
    show max (-((2 ^ (32 - 1) : ℕ) : ℤ)) (min (((2 ^ (32 - 1) : ℕ) : ℤ) - 1) (n : ℤ)) = (n : ℤ) from by norm_num at h ⊢; omega]
  exact BitVec.ofInt_natCast 32 n

/-- A choice between the words 1 and 0 is the bit, widened. -/
theorem select_word (b : BitVec 1) : Scalar.select b 1#32 0#32 = b.setWidth 32 := by
  revert b
  decide

/-- The wrapping sum of widened bits over an axis counts the places that have the property. -/
theorem fold_bits {N : ℕ} (p : Fin N → BitVec 1) (Q : ℕ → Prop) [DecidablePred Q] (h : ∀ k : Fin N, p k = 1#1 ↔ Q k.val) :
    Finset.fold IntOp.addi (0#32) (fun k => (p k).setWidth 32) Finset.univ = BitVec.ofNat 32 (Nat.count Q N) := by
  rw [IndicatorCount.fold_addi_setWidth_eq_card, ← Routing.card_filter_fin]
  exact congrArg (fun S : Finset (Fin N) => BitVec.ofNat 32 S.card) (Finset.filter_congr fun k _ => h k)

/-- Counting below `b` only, among the first `N ≥ b` numbers. -/
theorem count_below (Q : ℕ → Prop) [DecidablePred Q] (N b : ℕ) (hb : b ≤ N) :
    Nat.count (fun a => Q a ∧ a < b) N = Nat.count Q b := by
  obtain ⟨m, rfl⟩ := Nat.exists_eq_add_of_le hb
  rw [Nat.count_add]
  have h0 : Nat.count (fun k => Q (b + k) ∧ b + k < b) m = 0 :=
    Nat.count_iff_forall_not.mpr fun k _ hk => by omega
  rw [h0, Nat.add_zero]
  exact Routing.count_congr_of_lt b fun i hi => ⟨fun h => h.1, fun h => ⟨h, hi⟩⟩

/-- The count over `A` stretches of `B` is the sum of the stretches' counts. -/
theorem count_mul (Q : ℕ → Prop) [DecidablePred Q] (A B : ℕ) :
    Nat.count Q (A * B) = ∑ s ∈ Finset.range A, Nat.count (fun b => Q (s * B + b)) B := by
  induction A with
  | zero => simp
  | succ A ih => rw [Nat.succ_mul, Nat.count_add, ih, Finset.sum_range_succ]

/-- A sum weighted by 0/1 is the sum over the places weighted 1. -/
theorem sum_weighted {N : ℕ} (p : Fin N → Prop) [DecidablePred p] (f : Fin N → EReal) :
    ∑ k, (if p k then (1 : EReal) else 0) * f k = ∑ k, if p k then f k else 0 :=
  Finset.sum_congr rfl fun k _ => by by_cases h : p k <;> simp [h]

/-- The naturals' sum of the first `s` of `N` numbers, taken in the extended reals behind a test. -/
theorem sum_first {N : ℕ} (f : ℕ → ℕ) (s : ℕ) (hs : s ≤ N) :
    (∑ k : Fin N, if k.val < s then ((f k.val : ℕ) : EReal) else 0) = ((∑ k ∈ Finset.range s, f k : ℕ) : EReal) := by
  rw [Fin.sum_univ_eq_sum_range (fun k => if k < s then ((f k : ℕ) : EReal) else 0) N, ← Finset.sum_filter]
  have e : (Finset.range N).filter (fun k => k < s) = Finset.range s := by
    ext k
    simp only [Finset.mem_filter, Finset.mem_range]
    omega
  rw [e, Nat.cast_sum]

/-- Small words are equal exactly when their naturals are. -/
theorem word_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl
    rfl

/-- `arith.cmpi eq` sets its bit exactly at equal words. -/
theorem cmpi_eq_iff (a b : BitVec 32) : IntOp.cmpi .eq a b = 1#1 ↔ a = b := by
  rw [cmpi_eq_eq, ofBool_decide_eq_one_iff]

/-- `arith.cmpi slt` sets its bit exactly where the signed order does. -/
theorem cmpi_slt_iff (a b : BitVec 32) : IntOp.cmpi .slt a b = 1#1 ↔ a.toInt < b.toInt := by
  rw [cmpi_slt_eq, ofBool_decide_eq_one_iff]

/-- `arith.cmpi sge`, likewise. -/
theorem cmpi_sge_iff (a b : BitVec 32) : IntOp.cmpi .sge a b = 1#1 ↔ b.toInt ≤ a.toInt := by
  rw [cmpi_sge_eq, ofBool_decide_eq_one_iff]

/-- `arith.andi` of two bits is set exactly when both are. -/
theorem andi_iff (a b : BitVec 1) : IntOp.andi a b = 1#1 ↔ a = 1#1 ∧ b = 1#1 := by
  revert a b
  decide

/-- A small natural's word, read as a signed integer. -/
theorem toInt_word (n : ℕ) (h : n < 2 ^ 31) : (BitVec.ofNat 32 n).toInt = (n : ℤ) := by
  rw [BitVec.toInt_ofNat']
  norm_num [Int.bmod]
  omega

end Cert.Exchange

end
-- ==== Proof.Words.lean ====
/-
# The kernel's index words

Row `t` of a packed array belongs to block `t / 64` and is row `t % 64` there; row 0 of a block is its header, so
the data row's number is `t % 64 - 1`.
-/
module

public import proofs.«01_k».proof.Proof.Gen.KernelIdeal.Skeleton
public import proofs.«01_k».proof.Proof.Counting

@[expose] public section

set_option maxRecDepth 16384

noncomputable section

namespace Cert.Exchange

open Cert.KernelIdeal Cert.KernelIdeal.Gen Idealize.ShloMosaic

/-- The number 64 as the kernel's remainder spells it. -/
abbrev sixtyFour : BitVec 32 := Scalar.select (Scalar.cmpi .eq 64#32 0#32) 1#32 64#32

/-- The block of row `t`. -/
theorem block_word (t : Fin 1024) : k0_pay5 (ix2 t 0) = BitVec.ofNat 32 (t.val / 64) := by
  pointwise [k0_pay5]
  revert t
  decide +kernel

/-- The row within its block, less the header. -/
def slotWord : IVec S1024x1 32 := k0_pay9 sixtyFour k0_pay6 k0_pay7 k0_pay8

theorem slot_word (t : Fin 1024) : slotWord (ix2 t 0) = BitVec.ofNat 32 (t.val % 64) - 1#32 := by
  unfold slotWord
  pointwise [k0_pay9, k0_pay6, k0_pay7, k0_pay8]
  revert t
  decide +kernel

/-- Read as a signed number: `t % 64 - 1`. -/
theorem slot_toInt (t : Fin 1024) : (slotWord (ix2 t 0)).toInt = (t.val % 64 : ℕ) - 1 := by
  rw [slot_word]
  revert t
  decide +kernel

/-- A data row's slot word. -/
theorem slot_word_data (t : Fin 1024) (h : 1 ≤ t.val % 64) : slotWord (ix2 t 0) = BitVec.ofNat 32 (t.val % 64 - 1) := by
  rw [slot_word]
  revert t
  decide +kernel

/-- A header row's slot word. -/
theorem slot_word_header (t : Fin 1024) (h : t.val % 64 = 0) : slotWord (ix2 t 0) = 4294967295#32 := by
  rw [slot_word, h]
  decide

/-- A data row's slot word is not the header's. -/
theorem slot_word_ne (t : Fin 1024) (h : 1 ≤ t.val % 64) : slotWord (ix2 t 0) ≠ 4294967295#32 := by
  rw [slot_word]
  revert t
  decide +kernel

end Cert.Exchange

end
-- ==== Proof.Packed.lean ====
/-
# What a device packs

Block `c` of the packed array holds, in its header row, how many of the device's rows go to rank `c`; below it, in
row `j + 1`, the `j`-th of them. Both are sums over all the device's rows, taken where a test holds.
-/
module

public import proofs.«01_k».proof.Proof.Protocol
public import proofs.«01_k».proof.Proof.Words

@[expose] public section

set_option maxRecDepth 16384

noncomputable section

namespace Cert.Exchange

open Cert.KernelIdeal Cert.KernelIdeal.Gen Idealize.ShloMosaic
open scoped BigOperators

/-- How many of the device's rows go to rank `c`. -/
abbrev sentTo (D : ℕ → BitVec 32) (c : ℕ) : ℕ := Nat.count (fun b => D b = BitVec.ofNat 32 c) 512

/-- How many rows before row `b` go where row `b` goes. -/
abbrev before (D : ℕ → BitVec 32) (b : ℕ) : ℕ := Nat.count (fun a => D a = D b) b

theorem sentTo_le (D : ℕ → BitVec 32) (c : ℕ) : sentTo D c ≤ 512 := Nat.count_le _

theorem before_le (D : ℕ → BitVec 32) (b : ℕ) : before D b ≤ b := Nat.count_le _

variable (D : ℕ → BitVec 32) (d : Vec Ideal S512 .i32) (hD : ∀ b : Fin 512, d (ix1 b) = D b.val)

include hD in
/-- The word of a row's number among the rows that go where it goes. -/
theorem before_word (b : Fin 512) :
    k0_pay3 (k0_pay2 d d) (ix2 0 b) = BitVec.ofNat 32 (before D b.val) := by
  pointwise [k0_pay3, k0_pay2, k0_pay1]
  simp only [select_word]
  rw [fold_bits _ (fun a => D a = D b.val ∧ a < b.val) (fun a => ?_), count_below _ _ _ b.isLt.le]
  rw [andi_iff, cmpi_eq_iff, cmpi_slt_iff, hD, hD, toInt_word _ (by have := a.isLt; omega), toInt_word _ (by have := b.isLt; omega)]
  exact and_congr_right fun _ => Int.ofNat_lt

include hD in
/-- The count of the rows for rank `c`, as a float. -/
theorem sentTo_float (c : Fin 16) : k0_pay4 (F := Ideal) (k0_pay1 d) (ix2 c 0) = ((sentTo D c.val : ℕ) : EReal) := by
  pointwise [k0_pay4, k0_pay1]
  simp only [select_word]
  rw [fold_bits _ (fun a => D a = BitVec.ofNat 32 c.val) (fun a => ?_)]
  · exact float_of_nat _ _ (by have := sentTo_le D c.val; show sentTo D c.val < _; omega)
  · rw [cmpi_eq_iff, hD]
    exact eq_comm

include hD in
/-- A packed row, before the two kinds are told apart. -/
theorem packed_row (x : Vec Ideal S512x256 .bf16) (t : Fin 1024) (n : Fin 256) :
    packed (F := Ideal) d x (ix2 t n)
      = (∑ b : Fin 512, if D b.val = BitVec.ofNat 32 (t.val / 64) ∧ BitVec.ofNat 32 (before D b.val) = slotWord (ix2 t 0)
            then (x (ix2 b n) : EReal) else 0)
        + if t.val % 64 = 0 then ((sentTo D (t.val / 64) : ℕ) : EReal) else 0 := by
  have hj : t.val < 1024 := t.isLt
  have hk : k0_pay9 sel64 k0_pay6 k0_pay7 k0_pay8 = slotWord := rfl
  unfold packed
  pointwise [k0_pay11, k0_pay10]
  rw [hk]
  congr 1
  · simp only [float_of_bit, andi_iff, cmpi_eq_iff, before_word D d hD, block_word]
    rw [sum_weighted]
    refine Finset.sum_congr rfl fun b _ => if_congr ?_ rfl rfl
    have e : k0_pay1 d (ix2 0 b) = d (ix1 b) := by pointwise [k0_pay1]
    rw [e, hD]
  · by_cases h : t.val % 64 = 0
    · rw [if_pos h, slot_word_header t h]
      have e1 : IntOp.cmpi .eq 4294967295#32 4294967295#32 = 1#1 := by decide
      rw [e1, ValueIdx.select_one]
      simp only [float_of_bit, cmpi_eq_iff, block_word]
      rw [sum_weighted]
      have hb : t.val / 64 < 16 := by omega
      rw [Finset.sum_eq_single (⟨t.val / 64, hb⟩ : Fin 16)]
      · rw [if_pos rfl]
        exact sentTo_float D d hD ⟨t.val / 64, hb⟩
      · intro s _ hs
        rw [if_neg fun e => hs (Fin.ext ((word_eq_iff _ _ (by omega) (by have := s.isLt; omega)).mp e).symm)]
      · intro hn
        exact absurd (Finset.mem_univ _) hn
    · rw [if_neg h]
      have e0 : IntOp.cmpi .eq (slotWord (ix2 t 0)) 4294967295#32 = 0#1 :=
        ValueIdx.eq_zero_of_ne_one fun e => slot_word_ne t (by omega) ((cmpi_eq_iff _ _).mp e)
      rw [e0, ValueIdx.select_zero]

include hD in
/-- The header row of block `c`: the count of the rows for rank `c`. -/
theorem packed_header (x : Vec Ideal S512x256 .bf16) (t : Fin 1024) (n : Fin 256) (ht : t.val % 64 = 0) :
    packed (F := Ideal) d x (ix2 t n) = ((sentTo D (t.val / 64) : ℕ) : EReal) := by
  rw [packed_row D d hD, if_pos ht, slot_word_header t ht]
  rw [Finset.sum_eq_zero, zero_add]
  intro b _
  rw [if_neg]
  rintro ⟨-, e⟩
  have hb := before_le D b.val
  have := (word_eq_iff (before D b.val) 4294967295 (by have := b.isLt; omega) (by omega)).mp e
  have := b.isLt
  omega

include hD in
/-- Row `j + 1` of block `c`: the `j`-th row for rank `c`. -/
theorem packed_data (x : Vec Ideal S512x256 .bf16) (t : Fin 1024) (n : Fin 256) (ht : 1 ≤ t.val % 64) :
    packed (F := Ideal) d x (ix2 t n)
      = ∑ b : Fin 512, if D b.val = BitVec.ofNat 32 (t.val / 64) ∧ before D b.val = t.val % 64 - 1
          then (x (ix2 b n) : EReal) else 0 := by
  rw [packed_row D d hD, if_neg (by omega), add_zero, slot_word_data t ht]
  refine Finset.sum_congr rfl fun b _ => if_congr (and_congr_right fun _ => ?_) rfl rfl
  exact word_eq_iff _ _ (by have := before_le D b.val; have := b.isLt; omega) (by omega)

end Cert.Exchange

end
-- ==== Proof.Unpacked.lean ====
/-
# What a device unpacks

Every block's header gives how many rows it carries; the counts of the earlier blocks add up to the place where a
block's rows start. Result row `k` is the sum of the received rows that belong there.
-/
module

public import proofs.«01_k».proof.Proof.Packed

@[expose] public section

set_option maxRecDepth 16384

noncomputable section

namespace Cert.Exchange

open Cert.KernelIdeal Cert.KernelIdeal.Gen Idealize.ShloMosaic
open scoped BigOperators

/-- The row of block `s`'s header. -/
theorem header_lt (s : Fin 16) : 64 * s.val < 1024 := by
  have := s.isLt
  omega

/-- Where the rows of block `s` start, the blocks carrying `C 0`, `C 1`, … rows. -/
abbrev startOf (C : ℕ → ℕ) (s : ℕ) : ℕ := ∑ k ∈ Finset.range s, C k

variable (C : ℕ → ℕ) (hle : ∀ s, C s ≤ 512) (r : Vec Ideal S1024x256 .bf16)
  (hC : ∀ s : Fin 16, r (ix2 ⟨64 * s.val, header_lt s⟩ 0) = ((C s.val : ℕ) : EReal))

theorem startOf_le (C : ℕ → ℕ) (hle : ∀ s, C s ≤ 512) (s : ℕ) : startOf C s ≤ s * 512 := by
  have h := Finset.sum_le_card_nsmul (Finset.range s) C 512 fun k _ => hle k
  rwa [Finset.card_range, smul_eq_mul] at h

include hC in
/-- The header column picked out: one count per block. -/
theorem header_column (s : Fin 16) : k0_pay12 (F := Ideal) r (ix2 s 0) = ((C s.val : ℕ) : EReal) := by
  have hs := s.isLt
  pointwise [k0_pay12]
  simp only [float_of_bit, cmpi_eq_iff]
  rw [sum_weighted, Finset.sum_eq_single (⟨64 * s.val, by omega⟩ : Fin 1024)]
  · rw [if_pos, hC s]
    show 64#32 * BitVec.ofNat 32 s.val = BitVec.ofNat 32 (64 * s.val)
    exact (BitVec.ofNat_mul 64 s.val).symm
  · intro t _ ht
    rw [if_neg]
    intro e
    have e' : BitVec.ofNat 32 (64 * s.val) = BitVec.ofNat 32 t.val := (BitVec.ofNat_mul 64 s.val).trans e
    exact ht (Fin.ext ((word_eq_iff _ _ (by omega) (by have := t.isLt; omega)).mp e').symm)
  · intro hn
    exact absurd (Finset.mem_univ _) hn

include hC hle in
/-- The place where a row's block starts, as a word. -/
theorem start_word (t : Fin 1024) : k0_pay13 (F := Ideal) k0_pay5 r (ix2 t 0) = BitVec.ofNat 32 (startOf C (t.val / 64)) := by
  have ht := t.isLt
  pointwise [k0_pay13]
  simp only [float_of_bit, cmpi_slt_iff, block_word, header_column C r hC]
  rw [sum_weighted]
  have e : (∑ s : Fin 16, if (BitVec.ofNat 32 s.val).toInt < (BitVec.ofNat 32 (t.val / 64)).toInt then ((C s.val : ℕ) : EReal) else 0)
      = ((startOf C (t.val / 64) : ℕ) : EReal) := by
    rw [← sum_first C (t.val / 64) (show t.val / 64 ≤ 16 by omega)]
    refine Finset.sum_congr rfl fun s _ => if_congr ?_ rfl rfl
    rw [toInt_word _ (by have := s.isLt; omega), toInt_word _ (by omega)]
    exact Int.ofNat_lt
  rw [e]
  exact word_of_nat _ (by have := startOf_le C hle (t.val / 64); omega) _

include hC in
/-- The number of rows in a row's block, as a float. -/
theorem carried_float (t : Fin 1024) :
    k0_pay14 (F := Ideal) (k0_pay10 k0_pay5) r (ix2 t 0) = ((C (t.val / 64) : ℕ) : EReal) := by
  have ht := t.isLt
  have hb : t.val / 64 < 16 := by omega
  pointwise [k0_pay14, k0_pay10]
  simp only [float_of_bit, cmpi_eq_iff, block_word, header_column C r hC]
  rw [sum_weighted, Finset.sum_eq_single (⟨t.val / 64, hb⟩ : Fin 16)]
  · rw [if_pos rfl]
  · intro s _ hs
    rw [if_neg fun e => hs (Fin.ext ((word_eq_iff _ _ (by omega) (by have := s.isLt; omega)).mp e).symm)]
  · intro hn
    exact absurd (Finset.mem_univ _) hn

include hC hle in
/-- Result row `k`: the sum of the received data rows that belong there. -/
theorem unpacked_row (k : Fin 512) (n : Fin 256) :
    unpacked (F := Ideal) r (ix2 k n)
      = ∑ t : Fin 1024, if 1 ≤ t.val % 64 ∧ t.val % 64 - 1 < C (t.val / 64) ∧ startOf C (t.val / 64) + (t.val % 64 - 1) = k.val
          then (r (ix2 t n) : EReal) else 0 := by
  have hk : k0_pay9 sel64 k0_pay6 k0_pay7 k0_pay8 = slotWord := rfl
  unfold unpacked
  pointwise [k0_pay15]
  rw [hk]
  simp only [float_of_bit, andi_iff, cmpi_eq_iff, cmpi_sge_iff, cmpi_slt_iff, start_word C hle r hC, carried_float C r hC]
  rw [sum_weighted]
  refine Finset.sum_congr rfl fun t _ => if_congr ?_ rfl rfl
  have hst := startOf_le C hle (t.val / 64)
  have hc := hle (t.val / 64)
  have ht := t.isLt
  have hkl := k.isLt
  have h0 : (0#32 : BitVec 32).toInt = 0 := by decide
  rw [h0, word_of_nat _ (by omega), slot_toInt, toInt_word (C (t.val / 64)) (by omega)]
  by_cases h : 1 ≤ t.val % 64
  · rw [slot_word_data t h]
    have e : IntOp.addi (BitVec.ofNat 32 (startOf C (t.val / 64))) (BitVec.ofNat 32 (t.val % 64 - 1))
        = BitVec.ofNat 32 (startOf C (t.val / 64) + (t.val % 64 - 1)) := (BitVec.ofNat_add _ _).symm
    rw [e, word_eq_iff _ _ (by omega) (by omega)]
    constructor
    · rintro ⟨⟨a, b⟩, c⟩
      exact ⟨h, by omega, a.symm⟩
    · rintro ⟨a, b, c⟩
      exact ⟨⟨c.symm, by omega⟩, by omega⟩
  · constructor
    · rintro ⟨⟨a, b⟩, c⟩
      omega
    · rintro ⟨a, b⟩
      omega

end Cert.Exchange

end
-- ==== Proof.Exchange.lean ====
/-
# The exchange: what arrives at a rank is the rows sent to it, in order

Device `s` sends the `j`-th of its rows for rank `c` in place `j` of a block, and `c` puts that row after all rows of
earlier devices. So it stands at the place that the number of earlier rows for `c`, over all devices, gives.
-/
module

public import proofs.«01_k».proof.Proof.Unpacked
public import Idealize.ShloMosaic.Lib.Pipeline.ValueKit.Acc

@[expose] public section

noncomputable section

namespace Cert.Exchange

open Finset
open scoped BigOperators

/-- Device `s`'s share of the destinations. -/
abbrev shareOf (D : ℕ → BitVec 32) (s : ℕ) : ℕ → BitVec 32 := fun b => D (s * 512 + b)

/-- How many rows for `c` precede row `512 s + b`: those of the earlier devices, and those before it on device `s`. -/
theorem count_place (D : ℕ → BitVec 32) (c : BitVec 32) (s b : ℕ) :
    Nat.count (fun p => D p = c) (s * 512 + b)
      = (∑ k ∈ range s, Nat.count (fun a => shareOf D k a = c) 512) + Nat.count (fun a => shareOf D s a = c) b := by
  rw [Nat.count_add, count_mul]

/-- One device's part of the sum: over the places of its block, then over its rows; a row stands in one place. -/
theorem block_sum (D : ℕ → BitVec 32) (c k s : ℕ) (Y : ℕ → EReal) (h : sentTo (shareOf D s) c ≤ 63) :
    (∑ j ∈ range 64, if 1 ≤ j ∧ j - 1 < sentTo (shareOf D s) c ∧ startOf (fun s => sentTo (shareOf D s) c) s + (j - 1) = k then
        ∑ b ∈ range 512, (if shareOf D s b = BitVec.ofNat 32 c ∧ before (shareOf D s) b = j - 1 then Y (s * 512 + b) else 0) else 0)
      = ∑ b ∈ range 512, if D (s * 512 + b) = BitVec.ofNat 32 c ∧ Nat.count (fun p => D p = BitVec.ofNat 32 c) (s * 512 + b) = k
          then Y (s * 512 + b) else 0 := by
  have e : ∀ j ∈ range 64, (if 1 ≤ j ∧ j - 1 < sentTo (shareOf D s) c ∧ startOf (fun s => sentTo (shareOf D s) c) s + (j - 1) = k then
        ∑ b ∈ range 512, (if shareOf D s b = BitVec.ofNat 32 c ∧ before (shareOf D s) b = j - 1 then Y (s * 512 + b) else 0) else 0)
      = ∑ b ∈ range 512, (if (1 ≤ j ∧ j - 1 < sentTo (shareOf D s) c ∧ startOf (fun s => sentTo (shareOf D s) c) s + (j - 1) = k)
          ∧ shareOf D s b = BitVec.ofNat 32 c ∧ before (shareOf D s) b = j - 1 then Y (s * 512 + b) else 0) := fun j _ => by
    by_cases hj : 1 ≤ j ∧ j - 1 < sentTo (shareOf D s) c ∧ startOf (fun s => sentTo (shareOf D s) c) s + (j - 1) = k
    · rw [if_pos hj]
      exact sum_congr rfl fun b _ => if_congr (by simp only [hj, true_and]) rfl rfl
    · rw [if_neg hj]
      exact (sum_eq_zero fun b _ => if_neg fun h => hj h.1).symm
  rw [sum_congr rfl e, sum_comm]
  refine sum_congr rfl fun b hb => ?_
  have hb' := mem_range.mp hb
  by_cases hc : D (s * 512 + b) = BitVec.ofNat 32 c
  · have ew : before (shareOf D s) b = Nat.count (fun a => shareOf D s a = BitVec.ofNat 32 c) b := by
      show Nat.count (fun a => D (s * 512 + a) = D (s * 512 + b)) b = _
      rw [hc]
    have hlt : before (shareOf D s) b < sentTo (shareOf D s) c := by
      rw [ew]
      have h1 := Nat.count_succ (fun a => shareOf D s a = BitVec.ofNat 32 c) b
      rw [if_pos hc] at h1
      have h2 := Nat.count_monotone (fun a => shareOf D s a = BitVec.ofNat 32 c) (show b + 1 ≤ 512 by omega)
      show _ < Nat.count (fun a => shareOf D s a = BitVec.ofNat 32 c) 512
      omega
    rw [count_place, ← ew]
    rw [sum_eq_single (before (shareOf D s) b + 1)]
    · exact if_congr ⟨fun h => ⟨hc, by simpa using h.1.2.2⟩, fun h => ⟨⟨by omega, by simpa using hlt, by simpa using h.2⟩, hc, by omega⟩⟩ rfl rfl
    · intro j _ hj
      exact if_neg fun h => hj (by have h1 := h.1.1; have h2 := h.2.2; omega)
    · intro hn
      exact absurd (mem_range.mpr (by omega)) hn
  · rw [if_neg fun h => hc h.1]
    exact sum_eq_zero fun j _ => if_neg fun h => hc h.2.1

/-- All devices' parts together. -/
theorem exchange_sum (D : ℕ → BitVec 32) (c k : ℕ) (Y : ℕ → EReal) (h : ∀ s, s < 16 → sentTo (shareOf D s) c ≤ 63) :
    (∑ t ∈ range 1024, if 1 ≤ t % 64 ∧ t % 64 - 1 < sentTo (shareOf D (t / 64)) c
          ∧ startOf (fun s => sentTo (shareOf D s) c) (t / 64) + (t % 64 - 1) = k then
        ∑ b ∈ range 512, (if shareOf D (t / 64) b = BitVec.ofNat 32 c ∧ before (shareOf D (t / 64)) b = t % 64 - 1 then Y (t / 64 * 512 + b) else 0)
        else 0)
      = ∑ i ∈ range 8192, if D i = BitVec.ofNat 32 c ∧ Nat.count (fun p => D p = BitVec.ofNat 32 c) i = k then Y i else 0 := by
  have e1 := sum_range_mul_divmod 16 64 fun s j => if 1 ≤ j ∧ j - 1 < sentTo (shareOf D s) c
          ∧ startOf (fun s => sentTo (shareOf D s) c) s + (j - 1) = k then
        ∑ b ∈ range 512, (if shareOf D s b = BitVec.ofNat 32 c ∧ before (shareOf D s) b = j - 1 then Y (s * 512 + b) else 0) else 0
  have e2 := sum_range_mul_split 16 512 fun i =>
    if D i = BitVec.ofNat 32 c ∧ Nat.count (fun p => D p = BitVec.ofNat 32 c) i = k then Y i else 0
  refine e1.trans (Eq.trans (sum_congr rfl fun s hs => ?_) e2.symm)
  exact block_sum D c k s Y (h s (mem_range.mp hs))

end Cert.Exchange

end
-- ==== Proof.KernelValue.lean ====
/-
# What the kernel computes

Device `c` unpacks what all devices sent it, which is the rows that go to it, in the order in which they stand in the
whole input. The output array ends holding that.
-/
module

public import proofs.«01_k».proof.Proof.Launching
public import proofs.«01_k».proof.Proof.Exchange
public import Idealize.ShloMosaic.Lib.Pipeline.ValueKit

@[expose] public section

set_option maxRecDepth 16384

noncomputable section

namespace Cert.Exchange

open Cert.KernelIdeal Cert.KernelIdeal.Gen Idealize.ShloMosaic Idealize.ShloMosaic.TcCoe
open scoped BigOperators

variable (m : (ℓ : Loc nD τ sig) → Buf (Elt Ideal) ℓ) (ρ : Dev nD → PrngReg)

/-! ## The staged blocks and the output array -/

theorem xstg_apply (s : Dev nD) (b : Fin 512) (n : Fin 256) :
    xstg m ρ s (ix2 b n) = m ((s : Thread nD τ).loc main_arg0) (ix2 b n) := by
  show m ((s : Thread nD τ).loc main_arg0) ((win0_0.blk (0 : Fin 1)).view.emb (ix2 b n)) = _
  refine congrArg _ (funext fun a => Fin.ext ?_)
  have h01 : a = 0 ∨ a = 1 := by fin_cases a <;> simp
  rcases h01 with rfl | rfl
  · blk_simp
    show 0 * 512 + b.val = b.val
    omega
  · blk_simp
    show 0 * 256 + n.val = n.val
    omega

theorem dstg_apply (s : Dev nD) (b : Fin 512) :
    dstg m ρ s (ix1 b) = m ((s : Thread nD τ).loc main_arg1) (ix1 b) := by
  show m ((s : Thread nD τ).loc main_arg1) ((win0_1.blk (0 : Fin 1)).view.emb (ix1 b)) = _
  refine congrArg _ (funext fun a => Fin.ext ?_)
  have h01 : a = 0 := by fin_cases a <;> simp
  rcases h01 with rfl
  blk_simp
  show 0 * 512 + b.val = b.val
  omega

theorem finalA_out (c : Dev nD) : finalA m ρ c (2 : Fin 3) = outAt m ρ c := by
  refine (dats (F := Ideal) m ρ 0 c).arrAt_eq_of_after_last (2 : Fin 3) t0_0 (by decide +kernel) _ fun j => ?_
  rfl

/-! ## The rows -/

/-- A received element is the sender's. -/
theorem recvAll_apply (c : Dev nD) (t : Fin 1024) (n : Fin 256) :
    recvAll m ρ c (ix2 t n)
      = packed (F := Ideal) (dstg m ρ (⟨t.val / 64, by have := t.isLt; show _ < 16; omega⟩ : Dev nD)) (xstg m ρ (⟨t.val / 64, by have := t.isLt; show _ < 16; omega⟩ : Dev nD))
          (ix2 ⟨64 * c.val + t.val % 64, by have h : c.val < 16 := c.isLt; omega⟩ n) := by
  show sendAll m ρ _ (inBlk c (ix2 t n)) = _
  refine congrArg (packed (F := Ideal) _ _) (funext fun a => ?_)
  have h01 : a = 0 ∨ a = 1 := by fin_cases a <;> simp
  rcases h01 with rfl | rfl <;> rfl

variable (D : ℕ → BitVec 32) (X : ℕ → Fin 256 → EReal)
  (hd : ∀ (s : Dev nD) (b : Fin 512), m ((s : Thread nD τ).loc main_arg1) (ix1 b) = D (s.val * 512 + b.val))
  (hx : ∀ (s : Dev nD) (b : Fin 512) (n : Fin 256), m ((s : Thread nD τ).loc main_arg0) (ix2 b n) = X (s.val * 512 + b.val) n)

include hd in
theorem received_header (c s : Fin 16) :
    recvAll m ρ c (ix2 ⟨64 * s.val, header_lt s⟩ 0) = ((sentTo (shareOf D s.val) c.val : ℕ) : EReal) := by
  have hs := s.isLt
  have hc := c.isLt
  rw [recvAll_apply]
  have e : (64 * s.val) / 64 = s.val := by omega
  refine (packed_header (shareOf D s.val) _ (fun b => ?_) _ _ _ (by show (64 * c.val + (64 * s.val) % 64) % 64 = 0; omega)).trans ?_
  · rw [dstg_apply, hd]
    show D ((64 * s.val) / 64 * 512 + b.val) = D (s.val * 512 + b.val)
    rw [e]
  · rw [show (64 * c.val + (64 * s.val) % 64) / 64 = c.val from by omega]

include hd hx in
theorem received_row (c : Fin 16) (t : Fin 1024) (n : Fin 256) (ht : 1 ≤ t.val % 64) :
    recvAll m ρ c (ix2 t n)
      = ∑ b ∈ Finset.range 512, if shareOf D (t.val / 64) b = BitVec.ofNat 32 c.val ∧ before (shareOf D (t.val / 64)) b = t.val % 64 - 1
          then X (t.val / 64 * 512 + b) n else 0 := by
  have ht' := t.isLt
  have hc := c.isLt
  rw [recvAll_apply, Finset.sum_range]
  refine (packed_data (shareOf D (t.val / 64)) _ (fun b => by rw [dstg_apply, hd]) _ _ _ (by
    show 1 ≤ (64 * c.val + t.val % 64) % 64; omega)).trans ?_
  refine Finset.sum_congr rfl fun b _ => ?_
  rw [show (64 * c.val + t.val % 64) / 64 = c.val from by omega, show (64 * c.val + t.val % 64) % 64 = t.val % 64 from by omega,
    xstg_apply, hx]

include hd hx in
/-- Result row `k` of device `c`: of all rows, the one that goes to `c` as its `k`-th. -/
theorem kernel_row (c : Fin 16) (hfit : ∀ s, s < 16 → sentTo (shareOf D s) c.val ≤ 63) (k : Fin 512) (n : Fin 256) :
    outAt m ρ c (ix2 k n)
      = ∑ i ∈ Finset.range 8192, if D i = BitVec.ofNat 32 c.val ∧ Nat.count (fun p => D p = BitVec.ofNat 32 c.val) i = k.val
          then X i n else 0 := by
  refine (unpacked_row (fun s => sentTo (shareOf D s) c.val) (fun s => sentTo_le _ _) (recvAll m ρ c)
    (fun s => received_header m ρ D hd c s) k n).trans ?_
  rw [← exchange_sum D c.val k.val (fun i => X i n) hfit, Finset.sum_range]
  refine Finset.sum_congr rfl fun t _ => ?_
  by_cases ht : 1 ≤ t.val % 64
  · rw [received_row m ρ D X hd hx c t n ht]
  · rw [if_neg fun h => ht h.1, if_neg fun h => ht h.1]

end Cert.Exchange

end
-- ==== Proof.Sorting.lean ====
/-
# The stable sort by a key, position by position

Sorting the positions `0 … n - 1` stably by an integer key puts at place `q` the position `i` before which exactly
`q` positions come, those with a lesser key and the earlier ones with the same key.
-/
module

public import Idealize.ShloMosaic.Lib.SortFacts
public import Idealize.ShloMosaic.Lib.Routing.Count

@[expose] public section

namespace Cert.Exchange

open Idealize.ShloMosaic

variable {n : ℕ} (key : Fin n → ℤ)

/-- `a` comes before `b`: by the key, then by the position. -/
def comesBefore (a b : Fin n) : Prop := key a < key b ∨ (key a = key b ∧ a < b)

/-- The sort's comparison: by the key alone. -/
abbrev byKey (a b : Fin n) : Bool := decide (key a < key b)

theorem mem_insertBefore (a x : Fin n) (l : List (Fin n)) (h : x ∈ insertBefore (byKey key) a l) : x = a ∨ x ∈ l := by
  have h' := (perm_insertBefore (byKey key) a l).mem_iff.mp h
  rcases List.mem_cons.mp h' with h' | h'
  · exact Or.inl h'
  · exact Or.inr h'

/-- Inserting a position smaller than all of an ordered list keeps it ordered. -/
theorem ordered_insert (a : Fin n) (l : List (Fin n)) (hl : l.Pairwise (comesBefore key)) (ha : ∀ b ∈ l, a < b) :
    (insertBefore (byKey key) a l).Pairwise (comesBefore key) := by
  induction l with
  | nil => exact List.pairwise_singleton _ _
  | cons b l ih =>
    obtain ⟨hb, hl'⟩ := List.pairwise_cons.mp hl
    unfold insertBefore
    by_cases h : key b < key a
    · rw [if_pos (decide_eq_true h)]
      refine List.pairwise_cons.mpr ⟨fun x hx => ?_, ih hl' fun y hy => ha y (List.mem_cons_of_mem _ hy)⟩
      rcases mem_insertBefore key a x l hx with rfl | hx
      · exact Or.inl h
      · exact hb x hx
    · rw [if_neg (by simpa [byKey] using h)]
      refine List.pairwise_cons.mpr ⟨fun x hx => ?_, hl⟩
      have hax : a < x := ha x hx
      have hkey : key b ≤ key x := by
        rcases List.mem_cons.mp hx with rfl | hx
        · exact le_refl _
        · rcases hb x hx with h1 | h1
          · exact h1.le
          · exact h1.1.le
      rcases lt_or_eq_of_le ((not_lt.mp h).trans hkey) with h1 | h1
      · exact Or.inl h1
      · exact Or.inr ⟨h1, hax⟩

/-- The stable sort of an ascending list of positions is ordered. -/
theorem ordered_sort (l : List (Fin n)) (hl : l.Pairwise (· < ·)) : (stableSort (byKey key) l).Pairwise (comesBefore key) := by
  induction l with
  | nil => exact List.Pairwise.nil
  | cons a l ih =>
    obtain ⟨ha, hl'⟩ := List.pairwise_cons.mp hl
    exact ordered_insert key a _ (ih hl') fun b hb => ha b ((perm_stableSort (byKey key) l).mem_iff.mp hb)

/-- A later place holds a position that comes later. -/
theorem sorted_places (p q : Fin n) (h : p < q) : comesBefore key (sortedFrom (byKey key) p) (sortedFrom (byKey key) q) := by
  have hp := List.pairwise_iff_get.mp (ordered_sort key (List.finRange n) (List.pairwise_lt_finRange n))
  unfold sortedFrom
  exact hp _ _ (show p.val < q.val from h)

theorem not_comesBefore (a b : Fin n) (h : comesBefore key a b) : ¬comesBefore key b a := by
  rintro (h' | h') <;> rcases h with h | h
  · omega
  · omega
  · omega
  · exact absurd h.2 (not_lt.mpr h'.2.le)

/-- Place `q` holds the position before which exactly `q` positions come. -/
theorem sortedFrom_of_count (q i : Fin n) [DecidablePred fun p => comesBefore key p i]
    (h : q.val = (Finset.univ.filter fun p => comesBefore key p i).card) : sortedFrom (byKey key) q = i := by
  obtain ⟨q', rfl⟩ := sortedFrom_surjective (byKey key) i
  have e : (Finset.univ.filter fun p => comesBefore key p (sortedFrom (byKey key) q')).card = q'.val := by
    have hS : (Finset.univ.filter fun p : Fin n => comesBefore key p (sortedFrom (byKey key) q'))
        = (Finset.Iio q').map ⟨sortedFrom (byKey key), sortedFrom_injective (byKey key)⟩ := by
      ext p
      simp only [Finset.mem_filter, Finset.mem_univ, true_and, Finset.mem_map, Finset.mem_Iio, Function.Embedding.coeFn_mk]
      constructor
      · intro hp
        obtain ⟨j, rfl⟩ := sortedFrom_surjective (byKey key) p
        refine ⟨j, ?_, rfl⟩
        rcases lt_trichotomy j q' with h1 | h1 | h1
        · exact h1
        · subst h1
          exact absurd hp (not_comesBefore key _ _ hp)
        · exact absurd hp (not_comesBefore key _ _ (sorted_places key _ _ h1))
      · rintro ⟨j, hj, rfl⟩
        exact sorted_places key _ _ hj
    rw [hS, Finset.card_map, Fin.card_Iio]
  exact congrArg _ (Fin.ext (h.trans e))

/-- The same with the positions before `i` counted as naturals: the lesser keys, and the equal ones earlier. -/
theorem sortedFrom_of_counts (K : ℕ → ℤ) (q i : Fin n)
    (h : q.val = Nat.count (fun p => K p < K i.val) n + Nat.count (fun p => K p = K i.val) i.val) :
    sortedFrom (byKey fun p : Fin n => K p.val) q = i := by
  classical
  refine sortedFrom_of_count (fun p : Fin n => K p.val) q i (h.trans ?_)
  have e : Nat.count (fun p => K p = K i.val) i.val = Nat.count (fun p => K p = K i.val ∧ p < i.val) n := by
    obtain ⟨m, hm⟩ := Nat.exists_eq_add_of_le i.isLt.le
    generalize i.val = v at hm ⊢
    subst hm
    rw [Nat.count_add]
    have h0 : Nat.count (fun k => K (v + k) = K v ∧ v + k < v) m = 0 :=
      Nat.count_iff_forall_not.mpr fun k _ hk => by omega
    rw [h0, Nat.add_zero]
    exact Routing.count_congr_of_lt v fun j hj => ⟨fun h => ⟨h, hj⟩, fun h => h.1⟩
  rw [e, ← Routing.card_filter_fin, ← Routing.card_filter_fin]
  have hd : Disjoint (Finset.univ.filter fun p : Fin n => K p.val < K i.val)
      (Finset.univ.filter fun p : Fin n => K p.val = K i.val ∧ p.val < i.val) :=
    Finset.disjoint_filter.mpr fun p _ h1 h2 => by omega
  rw [← Finset.card_union_of_disjoint hd, ← Finset.filter_or]
  exact congrArg Finset.card (Finset.filter_congr fun p _ => Iff.rfl)

end Cert.Exchange
-- ==== Proof.Gathers.lean ====
/-
# The reference's row gathers and its sort, read at an index

Both gathers take whole rows of an `8192 × 256` array; the second takes a row for each place of a `16 × 512`
rectangle. The sort carries the positions along.
-/
module

public import proofs.«01_k».proof.Proof.Gen.ReferenceIdeal.Run
public import proofs.«01_k».proof.Proof.Sorting
public import proofs.«01_k».proof.Proof.Counting
public import Idealize.ShloMosaic.Lib.Routing.Ops
public import Idealize.ShloMosaic.Lib.Pointwise.IndexBridge

@[expose] public section

set_option maxRecDepth 16384

noncomputable section

namespace Cert.Exchange

open Cert.ReferenceIdeal Cert.ReferenceIdeal.Gen Idealize.ShloMosaic

/-- The gather of rows by a column of row numbers. -/
theorem take_rows {α : Type} (x : S8192x256.Idx → α) (idx : IVec S8192x1 32) (q : Fin 8192) (n : Fin 256) (i : Fin 8192)
    (h : idx (ix2 q 0) = BitVec.ofNat 32 i.val) :
    Host.gather gather_S8192x256_S8192x1_S8192x256_1_0_n_n_0_1_1256 x idx (ix2 q n) = x (ix2 i n) := by
  rw [ix2_eq_valueIdx, ix2_eq_valueIdx] at *
  exact Routing.gather_row gather_S8192x256_S8192x1_S8192x256_1_0_n_n_0_1_1256 rfl rfl rfl rfl rfl x idx q n i h (by norm_num)

/-- The gather of rows by a rectangle of row numbers. -/
theorem take_rows_rect {α : Type} (x : S8192x256.Idx → α) (idx : IVec S16x512x1 32) (c : Fin 16) (k : Fin 512) (n : Fin 256)
    (q : Fin 8192) (h : idx (ix3 c k 0) = BitVec.ofNat 32 q.val) :
    Host.gather gather_S8192x256_S16x512x1_S16x512x256_2_0_n_n_0_2_1256 x idx (ix3 c k n) = x (ix2 q n) := by
  have hq := q.isLt
  unfold Host.gather
  refine congrArg x (funext fun a => Fin.ext ?_)
  let d : GatherDims S8192x256 S16x512x1 S16x512x256 := gather_S8192x256_S16x512x1_S16x512x256_2_0_n_n_0_2_1256
  show d.start (ix3 c k n) idx a + d.batchCoord (ix3 c k n) a + d.offCoord (ix3 c k n) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix3 c k n) ⟨List.idxOf (0 : Fin 2) d.startIndexMap,
        List.idxOf_lt_length_iff.2 (List.mem_singleton.mpr rfl)⟩ = ix3 c k 0 := by
      funext b
      refine Fin.ext ?_
      match b with
      | ⟨0, _⟩ => rfl
      | ⟨1, _⟩ => rfl
      | ⟨2, _⟩ => rfl
    rw [hsi, h, toInt_word _ (by omega)]
    show min ((q.val : ℤ)).toNat (8192 - 1) + 0 + 0 = q.val
    omega
  · have hm : (1 : Fin 2) ∉ d.startIndexMap := by decide
    have hk : (1 : Fin 2) ∈ d.sKept := by decide
    unfold GatherDims.start GatherDims.offCoord
    rw [dif_neg hm, dif_pos hk]
    show 0 + 0 + n.val = n.val
    omega

/-- The sorted positions: at place `q` the position before which `q` positions come. -/
theorem sorted_positions (d : IVec S8192 32) (q i : Fin 8192) (D : ℕ → BitVec 32) (hD : ∀ i : Fin 8192, d (ix1 i) = D i.val)
    (h : q.val = Nat.count (fun p => (D p).toInt < (D i.val).toInt) 8192 + Nat.count (fun p => D p = D i.val) i.val) :
    (Host.sort2 S8192 0 comparator_i32_i32_d0 d (iotaInDim S8192 32 0)).2 (ix1 q) = BitVec.ofNat 32 i.val := by
  have e : Nat.count (fun p => D p = D i.val) i.val = Nat.count (fun p => (D p).toInt = (D i.val).toInt) i.val :=
    Routing.count_congr_of_lt _ fun j _ => ⟨fun h => by rw [h], fun h => BitVec.eq_of_toInt_eq h⟩
  have hs := sortedFrom_of_counts (fun p => (D p).toInt) q i (h.trans (by rw [e]))
  have hb : (fun k k' : Fin 8192 => comparator_i32_i32_d0 (d (ix1 k), iotaInDim S8192 32 0 (ix1 k)) (d (ix1 k'), iotaInDim S8192 32 0 (ix1 k')) == 1#1)
      = byKey fun p : Fin 8192 => (D p.val).toInt := by
    funext k k'
    show (IntOp.cmpi .slt (d (ix1 k)) (d (ix1 k')) == 1#1) = decide _
    rw [hD, hD]
    by_cases hlt : (D k.val).toInt < (D k'.val).toInt
    · rw [decide_eq_true hlt, (cmpi_slt_iff _ _).mpr hlt]
      rfl
    · rw [decide_eq_false hlt]
      exact beq_false_of_ne fun h1 => hlt ((cmpi_slt_iff _ _).mp h1)
  have ha : ∀ k : Fin 8192, (ix1 q : S8192.Idx).along (0 : Fin 1) k = ix1 k := fun k => by
    funext a
    obtain rfl : a = 0 := Subsingleton.elim _ _
    exact Function.update_self ..
  unfold Host.sort2
  rw [dif_pos (show 0 < S8192.rank from Nat.one_pos)]
  show iotaInDim S8192 32 0 ((ix1 q : S8192.Idx).along (0 : Fin 1) (sortedFrom (fun k k' : Fin 8192 =>
    comparator_i32_i32_d0 (d ((ix1 q : S8192.Idx).along (0 : Fin 1) k), iotaInDim S8192 32 0 ((ix1 q : S8192.Idx).along (0 : Fin 1) k))
      (d ((ix1 q : S8192.Idx).along (0 : Fin 1) k'), iotaInDim S8192 32 0 ((ix1 q : S8192.Idx).along (0 : Fin 1) k')) == 1#1) q)) = _
  simp only [ha]
  rw [hb]
  refine Eq.trans (congrArg (fun k : Fin 8192 => iotaInDim S8192 32 0 ((ix1 q : S8192.Idx).along (0 : Fin 1) k)) hs) ?_
  rw [ha]
  rfl

end Cert.Exchange

end
-- ==== Proof.ReferenceValue.lean ====
/-
# What the reference computes

Row `k` of rank `c`'s share is the row of the input that goes to rank `c` and before which exactly `k` rows go there;
where there is none, it is zero. As a sum: over all rows, the ones that go to `c` as its `k`-th.
-/
module

public import proofs.«01_k».proof.Proof.Gathers
public import Idealize.ShloMosaic.Lib.Tactic.CleanTypes

@[expose] public section

set_option maxRecDepth 16384

noncomputable section

namespace Cert.Exchange

open Cert.ReferenceIdeal Cert.ReferenceIdeal.Value Cert.ReferenceIdeal.Gen Idealize.ShloMosaic Idealize.ShloMosaic.TcCoe
open scoped BigOperators

/-- The `k`-th number with a property exists while `k` is below their count. -/
theorem exists_kth (P : ℕ → Prop) [DecidablePred P] (N k : ℕ) (h : k < Nat.count P N) :
    ∃ i, i < N ∧ P i ∧ Nat.count P i = k := by
  induction N with
  | zero => simp at h
  | succ N ih =>
    by_cases h' : k < Nat.count P N
    · obtain ⟨i, hi, hP, hk⟩ := ih h'
      exact ⟨i, by omega, hP, hk⟩
    · rw [Nat.count_succ] at h
      by_cases hN : P N
      · rw [if_pos hN] at h
        exact ⟨N, by omega, hN, by omega⟩
      · rw [if_neg hN] at h
        omega

/-- Two properties that exclude each other hold of at most `N` of the first `N` numbers. -/
theorem counts_le (P Q : ℕ → Prop) [DecidablePred P] [DecidablePred Q] (h : ∀ i, P i → ¬Q i) (N : ℕ) :
    Nat.count P N + Nat.count Q N ≤ N := by
  induction N with
  | zero => simp
  | succ N ih =>
    rw [Nat.count_succ, Nat.count_succ]
    by_cases hP : P N
    · rw [if_pos hP, if_neg (h N hP)]
      omega
    · rw [if_neg hP]
      split <;> omega

/-- The number of a row with a property is below the rows' count. -/
theorem count_lt_of (P : ℕ → Prop) [DecidablePred P] (N i : ℕ) (hi : i < N) (h : P i) : Nat.count P i < Nat.count P N := by
  have h1 := Nat.count_succ P i
  rw [if_pos h] at h1
  have h2 := Nat.count_monotone P (show i + 1 ≤ N from hi)
  omega

/-- Row numbers as the reference looks them up: a negative one counts from the end. -/
def wrappedOrder (d : IVec S8192 32) : IVec S8192x1 32 :=
  broadcastInDim S8192x1 ![0] bcast_S8192_S8192x1_0
    (select (cmpi .slt (Host.sort2 S8192 0 comparator_i32_i32_d0 d (iotaInDim S8192 32 0)).2
        (broadcastInDim S8192 ![] bcast_S_S8192 (constantI S_ 32 0#32)))
      (addi (Host.sort2 S8192 0 comparator_i32_i32_d0 d (iotaInDim S8192 32 0)).2
        (broadcastInDim S8192 ![] bcast_S_S8192 (constantI S_ 32 8192#32)))
      (Host.sort2 S8192 0 comparator_i32_i32_d0 d (iotaInDim S8192 32 0)).2)

/-- The place in the sorted order of row `k` of rank `c`'s share. -/
def shareStart (d : IVec S8192 32) : IVec S16x512 32 :=
  minsi
    (addi
      (broadcastInDim S16x512 ![0, 1] bcast_S16x1_S16x512_0_1
        (broadcastInDim S16x1 ![0] bcast_S16_S16x1_0
          (Host.reduce IntOp.addi
            (extui 32
              (cmpi .slt
                (broadcastInDim S16x8192 ![0, 1] bcast_S1x8192_S16x8192_0_1
                  (broadcastInDim S1x8192 ![1] bcast_S8192_S1x8192_1 d))
                (broadcastInDim S16x8192 ![0, 1] bcast_S16x1_S16x8192_0_1
                  (broadcastInDim S16x1 ![0] bcast_S16_S16x1_0 (iotaInDim S16 32 0))))
              natLt_1_32)
            (constantI S_ 32 0#32) reducesTo_S16x8192_S16_d1 h_S_)))
      (broadcastInDim S16x512 ![0, 1] bcast_S1x512_S16x512_0_1
        (broadcastInDim S1x512 ![1] bcast_S512_S1x512_1 (iotaInDim S512 32 0))))
    (broadcastInDim S16x512 ![] bcast_S_S16x512 (constantI S_ 32 8191#32))

/-- The same, a negative place counting from the end. -/
def wrappedPlace (d : IVec S8192 32) : IVec S16x512x1 32 :=
  broadcastInDim S16x512x1 ![0, 1] bcast_S16x512_S16x512x1_0_1
    (select (cmpi .slt (shareStart d) (broadcastInDim S16x512 ![] bcast_S_S16x512 (constantI S_ 32 0#32)))
      (addi (shareStart d) (broadcastInDim S16x512 ![] bcast_S_S16x512 (constantI S_ 32 8192#32)))
      (shareStart d))

/-- The result at an index: the looked-up row where rank `c` is sent more than `k` rows, else zero. -/
theorem result_at (m : (ℓ : Loc nD τ sig) → Buf (Elt Ideal) ℓ) (u : Dev nD) (x : FVec Ideal S8192x256 .bf16) (d : IVec S8192 32)
    (hx : m (u.tc.loc main_arg0) = x) (hd : m (u.tc.loc main_arg1) = d) (r : Fin 8192) (n : Fin 256) :
    (res_main_v46 (F := Ideal) m u : FVec Ideal S8192x256 .f32) (ix2 r n)
      = Scalar.select
          (IntOp.cmpi .slt (BitVec.ofNat 32 (r.val % 512))
            (Finset.fold IntOp.addi (0#32)
              (fun i : Fin 8192 => (IntOp.cmpi .eq (d (ix1 i)) (BitVec.ofNat 32 (r.val / 512))).setWidth 32) Finset.univ))
          (Host.gather gather_S8192x256_S16x512x1_S16x512x256_2_0_n_n_0_2_1256
            (Host.gather gather_S8192x256_S8192x1_S8192x256_1_0_n_n_0_1_1256 x (wrappedOrder d)) (wrappedPlace d)
            (ix3 (⟨r.val / 512, by omega⟩ : Fin 16) (⟨r.val % 512, by omega⟩ : Fin 512) n))
          (FloatOps.sitofp (F := Ideal) .bf16 0#32) := by
  subst hx hd
  unfold res_main_v46 wrappedOrder wrappedPlace shareStart
  clean_types
  pointwise

variable (D : ℕ → BitVec 32) (d : IVec S8192 32) (hD : ∀ i : Fin 8192, d (ix1 i) = D i.val)

/-- How many rows go to lower ranks than `c`. -/
abbrev lower (D : ℕ → BitVec 32) (c : ℕ) : ℕ := Nat.count (fun p => (D p).toInt < (BitVec.ofNat 32 c).toInt) 8192

/-- How many rows go to rank `c`. -/
abbrev total (D : ℕ → BitVec 32) (c : ℕ) : ℕ := Nat.count (fun p => D p = BitVec.ofNat 32 c) 8192

theorem lower_add_total (D : ℕ → BitVec 32) (c : ℕ) : lower D c + total D c ≤ 8192 :=
  counts_le _ _ (fun i h e => by rw [e] at h; exact lt_irrefl _ h) 8192

include hD in
/-- The order's word at a place. -/
theorem order_word (q i : Fin 8192)
    (h : q.val = Nat.count (fun p => (D p).toInt < (D i.val).toInt) 8192 + Nat.count (fun p => D p = D i.val) i.val) :
    wrappedOrder d (ix2 q 0) = BitVec.ofNat 32 i.val := by
  unfold wrappedOrder
  pointwise
  rw [sorted_positions d q i D hD h]
  have hi := i.isLt
  have e0 : IntOp.cmpi .slt (BitVec.ofNat 32 i.val) 0#32 = 0#1 :=
    ValueIdx.eq_zero_of_ne_one fun e => by
      have := (cmpi_slt_iff _ _).mp e
      rw [show (0#32 : BitVec 32).toInt = 0 from by decide, toInt_word _ (by omega)] at this
      omega
  rw [e0, ValueIdx.select_zero]

include hD in
/-- The place's word of row `k` of rank `c`'s share. -/
theorem place_word (c : Fin 16) (k : Fin 512) (h : lower D c.val + k.val < 8192) :
    wrappedPlace d (ix3 c k 0) = BitVec.ofNat 32 (lower D c.val + k.val) := by
  have es : shareStart d (ix2 c k) = BitVec.ofNat 32 (lower D c.val + k.val) := by
    unfold shareStart
    pointwise
    rw [fold_bits _ (fun p => (D p).toInt < (BitVec.ofNat 32 c.val).toInt) fun p => by rw [cmpi_slt_iff, hD]]
    have e1 : IntOp.addi (BitVec.ofNat 32 (lower D c.val)) (BitVec.ofNat 32 k.val) = BitVec.ofNat 32 (lower D c.val + k.val) :=
      (BitVec.ofNat_add _ _).symm
    show IntOp.minsi (IntOp.addi (BitVec.ofNat 32 (lower D c.val)) _) _ = _
    rw [e1]
    generalize lower D c.val + k.val = q at h ⊢
    unfold IntOp.minsi
    by_cases hq : (BitVec.ofNat 32 q).slt 8191#32 = true
    · rw [if_pos hq]
    · rw [if_neg hq]
      rw [BitVec.slt_iff_toInt_lt, toInt_word q (by omega), show (8191#32 : BitVec 32).toInt = 8191 from by decide] at hq
      rw [show q = 8191 from by omega]
  unfold wrappedPlace
  pointwise
  rw [es]
  have e0 : IntOp.cmpi .slt (BitVec.ofNat 32 (lower D c.val + k.val)) 0#32 = 0#1 :=
    ValueIdx.eq_zero_of_ne_one fun e => by
      have := (cmpi_slt_iff _ _).mp e
      rw [show (0#32 : BitVec 32).toInt = 0 from by decide, toInt_word _ (by omega)] at this
      omega
  rw [e0, ValueIdx.select_zero]

include hD in
/-- Row `k` of rank `c`'s share, as a sum over all rows. -/
theorem reference_row (m : (ℓ : Loc nD τ sig) → Buf (Elt Ideal) ℓ) (u : Dev nD) (x : FVec Ideal S8192x256 .bf16)
    (hx : m (u.tc.loc main_arg0) = x) (hd : m (u.tc.loc main_arg1) = d) (r : Fin 8192) (n : Fin 256) :
    (res_main_v46 (F := Ideal) m u : FVec Ideal S8192x256 .f32) (ix2 r n)
      = ∑ i : Fin 8192, if D i.val = BitVec.ofNat 32 (r.val / 512) ∧ Nat.count (fun p => D p = BitVec.ofNat 32 (r.val / 512)) i.val = r.val % 512
          then (x (ix2 i n) : EReal) else 0 := by
  have hr := r.isLt
  rw [result_at m u x d hx hd]
  rw [fold_bits _ (fun p => D p = BitVec.ofNat 32 (r.val / 512)) fun p => by rw [cmpi_eq_iff, hD]]
  have hlt := lower_add_total D (r.val / 512)
  by_cases hk : r.val % 512 < total D (r.val / 512)
  · have e1 : IntOp.cmpi .slt (BitVec.ofNat 32 (r.val % 512)) (BitVec.ofNat 32 (total D (r.val / 512))) = 1#1 := by
      rw [cmpi_slt_iff, toInt_word _ (by omega), toInt_word _ (by omega)]
      exact Int.ofNat_lt.mpr hk
    obtain ⟨i, hi, hDi, hci⟩ := exists_kth _ _ _ hk
    have hq : lower D (r.val / 512) + r.val % 512 < 8192 := by omega
    rw [e1, ValueIdx.select_one]
    rw [take_rows_rect _ _ _ _ _ (⟨lower D (r.val / 512) + r.val % 512, hq⟩ : Fin 8192)
      (place_word D d hD (⟨r.val / 512, by omega⟩ : Fin 16) (⟨r.val % 512, by omega⟩ : Fin 512) hq)]
    rw [take_rows _ _ _ _ (⟨i, hi⟩ : Fin 8192) (order_word D d hD _ ⟨i, hi⟩ (by
      show lower D (r.val / 512) + r.val % 512 = Nat.count (fun p => (D p).toInt < (D i).toInt) 8192 + Nat.count (fun p => D p = D i) i
      rw [hDi, hci]))]
    rw [Finset.sum_eq_single (⟨i, hi⟩ : Fin 8192)]
    · rw [if_pos ⟨hDi, hci⟩]
    · intro j _ hj
      rw [if_neg]
      rintro ⟨h1, h2⟩
      exact hj (Fin.ext (Nat.count_injective h1 hDi (h2.trans hci.symm)))
    · intro hn
      exact absurd (Finset.mem_univ _) hn
  · have e0 : IntOp.cmpi .slt (BitVec.ofNat 32 (r.val % 512)) (BitVec.ofNat 32 (total D (r.val / 512))) = 0#1 :=
      ValueIdx.eq_zero_of_ne_one fun e => by
        have := (cmpi_slt_iff _ _).mp e
        rw [toInt_word _ (by omega), toInt_word _ (by omega)] at this
        omega
    rw [e0, ValueIdx.select_zero]
    rw [float_of_nat .bf16 0 (by norm_num)]
    rw [Finset.sum_eq_zero, Nat.cast_zero]
    intro i _
    rw [if_neg]
    rintro ⟨h1, h2⟩
    have : _ < total D (r.val / 512) := count_lt_of (fun p => D p = BitVec.ofNat 32 (r.val / 512)) 8192 i.val i.isLt h1
    omega

/-- The whole destinations, by number. -/
def wholeD (d : IVec Cert.ReferenceIdeal.S8192 32) (i : ℕ) : BitVec 32 := if h : i < 8192 then d (ix1 ⟨i, h⟩) else 0#32

end Cert.Exchange

end
-- ==== Proof.Algebraic.lean ====
/-
# The value claim: the kernel's result is the reference's
-/
module

public import proofs.«01_k».proof.Proof.Frames
public import proofs.«01_k».proof.Proof.KernelValue
public import proofs.«01_k».proof.Proof.ReferenceValue
public import proofs.«01_k».proof.Proof.Conditions

@[expose] public section

set_option maxRecDepth 16384

noncomputable section

namespace Cert.Exchange

open Idealize.ShloMosaic Idealize.ShloMosaic.TcCoe Idealize.SL.Sem
open scoped BigOperators

theorem cmpi_sle_iff (a b : BitVec 32) : IntOp.cmpi .sle a b = 1#1 ↔ a.toInt ≤ b.toInt := by
  rw [WordCmp.cmpi_sle_eq, WordCmp.ofBool_decide_eq_one_iff]

/-- The precondition, read: no rank is sent more than 63 of a device's rows. -/
theorem fits_read (x : FVec Ideal Cert.Pre_fits_KernelIdeal.S512x256 .bf16) (d : IVec Cert.Pre_fits_KernelIdeal.S512 32)
    (D : ℕ → BitVec 32) (hD : ∀ b : Fin 512, d (ix1 b) = D b.val)
    (h : Cert.Pre_fits_KernelIdeal.fn (F := Ideal) x d = fun _ => 1#1) (c : Fin 16) : sentTo D c.val ≤ 63 := by
  have e := congrFun h (ix1 c)
  unfold Cert.Pre_fits_KernelIdeal.fn at e
  pointwise at e
  rw [fold_bits _ (fun b => D b = BitVec.ofNat 32 c.val) fun b => by rw [cmpi_eq_iff, hD]] at e
  rw [cmpi_sle_iff, toInt_word _ (lt_of_le_of_lt (Nat.count_le _) (by decide)), show (63#32 : BitVec 32).toInt = 63 from by decide] at e
  exact_mod_cast e

/-- The whole rows, by number. -/
def wholeX (x : FVec Ideal Cert.ReferenceIdeal.S8192x256 .bf16) (i : ℕ) (n : Fin 256) : EReal := if h : i < 8192 then x (ix2 ⟨i, h⟩ n) else 0

theorem algebraic : Cert.algebraic_KernelIdeal_ReferenceIdeal_pre_fits_KernelIdeal := by
  intro m ρ m' ρ' hfit hm
  set x : FVec Ideal Cert.ReferenceIdeal.S8192x256 .bf16 := m' (((0 : Dev Cert.ReferenceIdeal.nD).tc : Thread Cert.ReferenceIdeal.nD Cert.ReferenceIdeal.τ).loc Cert.ReferenceIdeal.main_arg0) with hx'
  set d : IVec Cert.ReferenceIdeal.S8192 32 := m' (((0 : Dev Cert.ReferenceIdeal.nD).tc : Thread Cert.ReferenceIdeal.nD Cert.ReferenceIdeal.τ).loc Cert.ReferenceIdeal.main_arg1) with hd'
  have hd : ∀ (s : Dev Cert.KernelIdeal.nD) (b : Fin 512), m ((s.tc : Thread Cert.KernelIdeal.nD Cert.KernelIdeal.τ).loc Cert.KernelIdeal.main_arg1) (ix1 b) = wholeD d (s.val * 512 + b.val) := fun s b => by
    have hs : s.val < 16 := s.isLt
    have hb := b.isLt
    rw [(hm s).2, wholeD, dif_pos (by omega)]
    refine congrArg d (funext fun a => Fin.ext ?_)
    have h01 : a = 0 := by fin_cases a; simp
    rcases h01 with rfl
    rfl
  have hx : ∀ (s : Dev Cert.KernelIdeal.nD) (b : Fin 512) (n : Fin 256), m ((s.tc : Thread Cert.KernelIdeal.nD Cert.KernelIdeal.τ).loc Cert.KernelIdeal.main_arg0) (ix2 b n) = wholeX x (s.val * 512 + b.val) n := fun s b n => by
    have hs : s.val < 16 := s.isLt
    have hb := b.isLt
    rw [(hm s).1, wholeX, dif_pos (by omega)]
    refine congrArg x (funext fun a => Fin.ext ?_)
    have h01 : a = 0 ∨ a = 1 := by fin_cases a <;> simp
    rcases h01 with rfl | rfl <;> rfl
  have hfits : ∀ c : Fin 16, ∀ s, s < 16 → sentTo (shareOf (wholeD d) s) c.val ≤ 63 := fun c s hs =>
    fits_read _ _ (shareOf (wholeD d) s) (fun b => hd ⟨s, hs⟩ b) (hfit (⟨s, hs⟩ : Fin 16)) c
  refine ⟨Cert.ReferenceIdeal.Value.res_main_v46 (F := Ideal) m' 0, ?_, ?_⟩
  · refine (θ_run Cert.KernelIdeal.defs _ _).mono (fun r h c => ⟨?_, mem_x m ρ h.1 c, mem_d m ρ h.1 c⟩) (run_main (F := Ideal) m ρ)
    refine ((h.1 c (2 : Fin 3)).trans (finalA_out m ρ c)).trans (funext fun i => ?_)
    obtain ⟨k, n, rfl⟩ : ∃ (k : Fin 512) (n : Fin 256), i = ix2 k n := ⟨i 0, i 1, funext fun a => by
      have h01 : a = 0 ∨ a = 1 := by fin_cases a <;> simp
      rcases h01 with rfl | rfl <;> rfl⟩
    have hc : c.val < 16 := c.isLt
    have hk := k.isLt
    refine (kernel_row m ρ (wholeD d) (wholeX x) hd hx c (hfits c) k n).trans ?_
    have hrow := reference_row (wholeD d) d (fun i => by rw [wholeD, dif_pos i.isLt]) m' 0 x rfl rfl ⟨512 * c.val + k.val, by omega⟩ n
    have hsum : (∑ i ∈ Finset.range 8192, if wholeD d i = BitVec.ofNat 32 c.val ∧ Nat.count (fun p => wholeD d p = BitVec.ofNat 32 c.val) i = k.val
          then wholeX x i n else 0)
        = ∑ i : Fin 8192, if wholeD d i.val = BitVec.ofNat 32 ((512 * c.val + k.val) / 512)
            ∧ Nat.count (fun p => wholeD d p = BitVec.ofNat 32 ((512 * c.val + k.val) / 512)) i.val = (512 * c.val + k.val) % 512
          then (x (ix2 i n) : EReal) else 0 := by
      rw [Finset.sum_range]
      refine Finset.sum_congr rfl fun i _ => ?_
      rw [show (512 * c.val + k.val) / 512 = c.val from by omega, show (512 * c.val + k.val) % 512 = k.val from by omega,
        wholeX, dif_pos i.isLt]
    refine (hsum.trans hrow.symm).trans ?_
    refine congrArg (Cert.ReferenceIdeal.Value.res_main_v46 (F := Ideal) m' 0) (funext fun a => Fin.ext ?_)
    have h01 : a = 0 ∨ a = 1 := by fin_cases a <;> simp
    rcases h01 with rfl | rfl
    · show 512 * c.val + k.val = c.val * 512 + k.val
      omega
    · rfl
  · exact (θ_run Cert.ReferenceIdeal.defs _ _).mono (fun r h => ⟨(h 0).1, (h 0).2.1, (h 0).2.2⟩) (Cert.ReferenceIdeal.Value.run (F := Ideal) m' ρ')

end Cert.Exchange

end
-- ==== Proof.Balanced.lean ====
/-
# Where every rank is sent 512 rows, the reference is the sorted rows

Then rank `c`'s rows start at place `512 c` of the sorted order and fill its whole share.
-/
module

public import proofs.«01_k».proof.Defs
public import proofs.«01_k».proof.Proof.Conditions
public import proofs.«01_k».proof.Proof.ReferenceValue
public import proofs.«01_k».proof.Proof.Gen.SortedIdeal
public import proofs.«01_k».proof.Proof.Gen.SortedIdeal.Run
public import Idealize.ShloMosaic.Adequacy
public import Idealize.ShloMosaic.Init

@[expose] public section

set_option maxRecDepth 16384

noncomputable section

namespace Cert.Exchange

open Idealize.ShloMosaic Idealize.ShloMosaic.TcCoe Idealize.SL.Sem
open scoped BigOperators

/-! ## The counts -/

/-- Two properties that exclude each other and imply a third. -/
theorem counts_le_count (P Q R : ℕ → Prop) [DecidablePred P] [DecidablePred Q] [DecidablePred R] (h : ∀ i, P i → ¬Q i)
    (hP : ∀ i, P i → R i) (hQ : ∀ i, Q i → R i) (N : ℕ) : Nat.count P N + Nat.count Q N ≤ Nat.count R N := by
  induction N with
  | zero => simp
  | succ N ih =>
    rw [Nat.count_succ, Nat.count_succ, Nat.count_succ]
    by_cases p : P N
    · rw [if_pos p, if_neg (h N p), if_pos (hP N p)]
      omega
    · by_cases q : Q N
      · rw [if_neg p, if_pos q, if_pos (hQ N q)]
        omega
      · rw [if_neg p, if_neg q]
        omega

/-- A sequence that grows by at least 512 at each of 16 steps and ends by 8192 grows by 512 at each. -/
theorem steps_exact (f : ℕ → ℕ) (h : ∀ c, c < 16 → f c + 512 ≤ f (c + 1)) (hN : f 16 ≤ 8192) (c : ℕ) (hc : c ≤ 16) :
    f c = 512 * c := by
  have lo : ∀ c, c ≤ 16 → 512 * c ≤ f c := fun c => by
    induction c with
    | zero => intro _; omega
    | succ c ih =>
      intro hc
      have h1 := ih (by omega)
      have h2 := h c (by omega)
      omega
  have hi : ∀ j, j ≤ 16 → f (16 - j) + 512 * j ≤ 8192 := fun j => by
    induction j with
    | zero => intro _; simpa using hN
    | succ j ih =>
      intro hj
      have h1 := ih (by omega)
      have h2 := h (16 - (j + 1)) (by omega)
      rw [show 16 - (j + 1) + 1 = 16 - j from by omega] at h2
      omega
  have h1 := lo c hc
  have h2 := hi (16 - c) (by omega)
  rw [show 16 - (16 - c) = c from by omega] at h2
  omega

variable (D : ℕ → BitVec 32) (hbal : ∀ c, c < 16 → total D c = 512)

include hbal in
/-- Rank `c`'s rows start at place `512 c`. -/
theorem lower_eq (c : ℕ) (hc : c ≤ 16) : lower D c = 512 * c := by
  refine steps_exact (lower D) (fun c hc => ?_) (Nat.count_le _) c hc
  rw [← hbal c hc]
  have e1 : (BitVec.ofNat 32 c).toInt = c := toInt_word c (by omega)
  have e2 : (BitVec.ofNat 32 (c + 1)).toInt = ((c + 1 : ℕ) : ℤ) := toInt_word (c + 1) (by omega)
  refine counts_le_count _ _ _ (fun i p q => ?_) (fun i p => ?_) (fun i q => ?_) 8192
  · rw [q] at p
    exact lt_irrefl _ p
  · rw [e1] at p
    rw [e2]
    omega
  · rw [q, e1, e2]
    omega

/-! ## The two results -/

/-- The sorted rows. -/
def sortedRows (x : FVec Ideal Cert.ReferenceIdeal.S8192x256 .bf16) (d : IVec Cert.ReferenceIdeal.S8192 32) :
    FVec Ideal Cert.ReferenceIdeal.S8192x256 .f32 :=
  extf .f32 (Host.gather Cert.ReferenceIdeal.gather_S8192x256_S8192x1_S8192x256_1_0_n_n_0_1_1256 x (wrappedOrder d)) (by decide)

/-- At an index: over the reals, widening changes nothing. -/
theorem sortedRows_apply (x : FVec Ideal Cert.ReferenceIdeal.S8192x256 .bf16) (d : IVec Cert.ReferenceIdeal.S8192 32) (r : Fin 8192) (n : Fin 256) :
    sortedRows x d (ix2 r n)
      = (Host.gather Cert.ReferenceIdeal.gather_S8192x256_S8192x1_S8192x256_1_0_n_n_0_1_1256 x (wrappedOrder d) (ix2 r n) : EReal) := rfl

/-- The sorting program ends with the sorted rows. -/
theorem run_sorted (m : (ℓ : Loc Cert.SortedIdeal.nD Cert.SortedIdeal.τ Cert.SortedIdeal.sig) → Buf (Elt Ideal) ℓ)
    (ρ : Dev Cert.SortedIdeal.nD → PrngReg) :
    θ_run (Cert.SortedIdeal.defs (F := Ideal)) (onTc (τ := Cert.SortedIdeal.τ) (Cert.SortedIdeal.main (F := Ideal))) ⟨m, fun _ => 0, ρ⟩ fun r =>
      ∀ c : Dev Cert.SortedIdeal.nD,
        r.2.mem ((c.tc : Thread Cert.SortedIdeal.nD Cert.SortedIdeal.τ).loc Cert.SortedIdeal.main_v8)
          = sortedRows (m ((c.tc : Thread Cert.SortedIdeal.nD Cert.SortedIdeal.τ).loc Cert.SortedIdeal.main_arg0)) (m ((c.tc : Thread Cert.SortedIdeal.nD Cert.SortedIdeal.τ).loc Cert.SortedIdeal.main_arg1))
        ∧ r.2.mem ((c.tc : Thread Cert.SortedIdeal.nD Cert.SortedIdeal.τ).loc Cert.SortedIdeal.main_arg0) = m ((c.tc : Thread Cert.SortedIdeal.nD Cert.SortedIdeal.τ).loc Cert.SortedIdeal.main_arg0)
        ∧ r.2.mem ((c.tc : Thread Cert.SortedIdeal.nD Cert.SortedIdeal.τ).loc Cert.SortedIdeal.main_arg1) = m ((c.tc : Thread Cert.SortedIdeal.nD Cert.SortedIdeal.τ).loc Cert.SortedIdeal.main_arg1) :=
  (θ_run Cert.SortedIdeal.defs _ _).mono (fun _ h c => ⟨(h c).1.trans rfl, (h c).2.1, (h c).2.2⟩) (Cert.SortedIdeal.Value.run (F := Ideal) m ρ)

/-- A row of a rank's share, once it is known which it is. -/
theorem reference_row_of (d : IVec Cert.ReferenceIdeal.S8192 32) (hD : ∀ i : Fin 8192, d (ix1 i) = D i.val)
    (m : (ℓ : Loc Cert.ReferenceIdeal.nD Cert.ReferenceIdeal.τ Cert.ReferenceIdeal.sig) → Buf (Elt Ideal) ℓ) (u : Dev Cert.ReferenceIdeal.nD)
    (x : FVec Ideal Cert.ReferenceIdeal.S8192x256 .bf16) (hx : m (u.tc.loc Cert.ReferenceIdeal.main_arg0) = x)
    (hd : m (u.tc.loc Cert.ReferenceIdeal.main_arg1) = d) (r i : Fin 8192) (n : Fin 256)
    (hDi : D i.val = BitVec.ofNat 32 (r.val / 512)) (hci : Nat.count (fun p => D p = BitVec.ofNat 32 (r.val / 512)) i.val = r.val % 512) :
    (Cert.ReferenceIdeal.Value.res_main_v46 (F := Ideal) m u : FVec Ideal Cert.ReferenceIdeal.S8192x256 .f32) (ix2 r n) = (x (ix2 i n) : EReal) := by
  rw [reference_row D d hD m u x hx hd r n, Finset.sum_eq_single i]
  · rw [if_pos ⟨hDi, hci⟩]
  · intro j _ hj
    rw [if_neg]
    rintro ⟨h1, h2⟩
    exact hj (Fin.ext (Nat.count_injective h1 hDi (h2.trans hci.symm)))
  · intro hn
    exact absurd (Finset.mem_univ _) hn

include hbal in
/-- The two results at an index. -/
theorem shares_eq_sorted (d : IVec Cert.ReferenceIdeal.S8192 32) (hD : ∀ i : Fin 8192, d (ix1 i) = D i.val)
    (m : (ℓ : Loc Cert.ReferenceIdeal.nD Cert.ReferenceIdeal.τ Cert.ReferenceIdeal.sig) → Buf (Elt Ideal) ℓ) (u : Dev Cert.ReferenceIdeal.nD)
    (x : FVec Ideal Cert.ReferenceIdeal.S8192x256 .bf16) (hx : m (u.tc.loc Cert.ReferenceIdeal.main_arg0) = x)
    (hd : m (u.tc.loc Cert.ReferenceIdeal.main_arg1) = d) (r : Fin 8192) (n : Fin 256) :
    (Cert.ReferenceIdeal.Value.res_main_v46 (F := Ideal) m u : FVec Ideal Cert.ReferenceIdeal.S8192x256 .f32) (ix2 r n)
      = sortedRows x d (ix2 r n) := by
  have hr := r.isLt
  have ht := hbal (r.val / 512) (by omega)
  obtain ⟨i, hi, hDi, hci⟩ := exists_kth (fun p => D p = BitVec.ofNat 32 (r.val / 512)) 8192 (r.val % 512)
    (lt_of_lt_of_eq (Nat.mod_lt _ (by decide)) ht.symm)
  rw [reference_row_of D d hD m u x hx hd r ⟨i, hi⟩ n hDi hci, sortedRows_apply]
  refine (take_rows x (wrappedOrder d) r n ⟨i, hi⟩ (order_word D d hD r ⟨i, hi⟩ ?_)).symm
  have hl := lower_eq D hbal (r.val / 512) (by omega)
  show r.val = Nat.count (fun p => (D p).toInt < (D i).toInt) 8192 + Nat.count (fun p => D p = D i) i
  rw [hDi, hci]
  show r.val = lower D (r.val / 512) + r.val % 512
  omega

/-- The second precondition, read: every rank is sent 512 rows. -/
theorem balanced_read (x : FVec Ideal Cert.Pre_balanced.S8192x256 .bf16) (d : IVec Cert.Pre_balanced.S8192 32)
    (D : ℕ → BitVec 32) (hD : ∀ b : Fin 8192, d (ix1 b) = D b.val)
    (h : Cert.Pre_balanced.fn (F := Ideal) x d = fun _ => 1#1) (c : Fin 16) : total D c.val = 512 := by
  have e := congrFun h (ix1 c)
  unfold Cert.Pre_balanced.fn at e
  pointwise at e
  rw [fold_bits _ (fun b => D b = BitVec.ofNat 32 c.val) fun b => by rw [cmpi_eq_iff, hD]] at e
  exact (word_eq_iff _ _ (lt_of_le_of_lt (Nat.count_le _) (by decide)) (by decide)).mp ((cmpi_eq_iff _ _).mp e)

/-! ## The claims -/

/-- The sorting program's one device has no semaphore. -/
theorem frame_sorted : Cert.quiescent_SortedIdeal := fun m ρ _ =>
  (θ_run Cert.SortedIdeal.defs _ _).mono (fun r h => ⟨fun c => (h c).2, funext fun g => by
      rcases g with ⟨_, ⟨_, hk⟩ | ⟨_, hk⟩⟩ <;> exact absurd hk (Nat.not_lt_zero _)⟩) (run_sorted m ρ)

theorem algebraic_sorted : Cert.algebraic_ReferenceIdeal_SortedIdeal_pre_balanced := by
  intro m ρ m' ρ' hpre hm
  refine ⟨fun c => Cert.ReferenceIdeal.Value.res_main_v46 (F := Ideal) m c, ?_, ?_⟩
  · exact Cert.ReferenceIdeal.Value.run (F := Ideal) m ρ
  · refine (θ_run Cert.SortedIdeal.defs _ _).mono (fun r h c => ⟨(h c).1.trans ?_, (h c).2.1, (h c).2.2⟩) (run_sorted m' ρ')
    have hbal := fun a ha => balanced_read _ (m ((c.tc : Thread Cert.ReferenceIdeal.nD Cert.ReferenceIdeal.τ).loc Cert.ReferenceIdeal.main_arg1))
      (wholeD (m ((c.tc : Thread Cert.ReferenceIdeal.nD Cert.ReferenceIdeal.τ).loc Cert.ReferenceIdeal.main_arg1)))
      (fun b => by rw [wholeD, dif_pos b.isLt]) (hpre c) (⟨a, ha⟩ : Fin 16)
    refine (congrArg₂ sortedRows (hm c).1 (hm c).2).trans (funext fun i => ?_)
    obtain ⟨r, n, rfl⟩ : ∃ (r : Fin 8192) (n : Fin 256), i = ix2 r n := ⟨i 0, i 1, funext fun a => by
      have h01 : a = 0 ∨ a = 1 := by fin_cases a <;> simp
      rcases h01 with rfl | rfl <;> rfl⟩
    exact (shares_eq_sorted _ hbal _ (fun b => by rw [wholeD, dif_pos b.isLt]) m c _ rfl rfl r n).symm

end Cert.Exchange

end
-- ==== Proof.lean ====
/-
# The certificate
-/
module

public import proofs.«01_k».proof.Defs
public import proofs.«01_k».proof.Proof.Frames
public import proofs.«01_k».proof.Proof.Conditions
public import proofs.«01_k».proof.Proof.Algebraic
public import proofs.«01_k».proof.Proof.Balanced
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SortedIdeal
public import proofs.«01_k».proof.Proof.Gen.SortedIdeal.Run

@[expose] public section

noncomputable section

namespace Cert.Proof

open Cert.Exchange

theorem claim : Cert.Claim :=
  ⟨Cert.Kernel.Gen.facts, Cert.KernelIdeal.Gen.facts, Cert.ReferenceIdeal.Gen.facts, Cert.SortedIdeal.Gen.facts,
    deviceConditions, wholeConditions, balancedConditions,
    frame_kernel, frame_kernelIdeal, fun m ρ _ => frame_kernelIdeal m ρ trivial, frame_reference,
    fun m ρ _ => frame_reference m ρ trivial, fun m ρ _ => frame_reference m ρ trivial,
    frame_sorted, fun m ρ _ => frame_sorted m ρ trivial, trivial, algebraic, algebraic_sorted⟩

end Cert.Proof

end
